-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_nodes_and_graph_ids [hPre_finite_nodes_and_graph_ids : Cert.Pre_finite_nodes_and_graph_ids.Facts] (m : (ℓ : Loc Cert.KernelIdeal.nD Cert.KernelIdeal.τ Cert.KernelIdeal.sig) → Buf (Elt Ideal) ℓ) : Prop :=
  ∀ c : Dev Cert.KernelIdeal.nD,
    (Cert.Pre_finite_nodes_and_graph_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).1 = (fun _ => 1#1)
    ∧ (Cert.Pre_finite_nodes_and_graph_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.1 = (fun _ => 1#1)
    ∧ (Cert.Pre_finite_nodes_and_graph_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.1 = (fun _ => 1#1)
    ∧ (Cert.Pre_finite_nodes_and_graph_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.1 = (fun _ => 1#1)
    ∧ (Cert.Pre_finite_nodes_and_graph_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.1 = (fun _ => 1#1)
    ∧ (Cert.Pre_finite_nodes_and_graph_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.1 = (fun _ => 1#1)
    ∧ (Cert.Pre_finite_nodes_and_graph_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.1 = (fun _ => 1#1)
    ∧ (Cert.Pre_finite_nodes_and_graph_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.1 = (fun _ => 1#1)
    ∧ (Cert.Pre_finite_nodes_and_graph_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.2.1 = (fun _ => 1#1)
    ∧ (Cert.Pre_finite_nodes_and_graph_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.2.2.1 = (fun _ => 1#1)
    ∧ (Cert.Pre_finite_nodes_and_graph_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.2.2.2.1 = (fun _ => 1#1)
    ∧ (Cert.Pre_finite_nodes_and_graph_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_nodes_and_graph_ids [hPre_finite_nodes_and_graph_ids : Cert.Pre_finite_nodes_and_graph_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_nodes_and_graph_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).1 = (fun _ => 1#1)
    ∧ (Cert.Pre_finite_nodes_and_graph_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.1 = (fun _ => 1#1)
    ∧ (Cert.Pre_finite_nodes_and_graph_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.1 = (fun _ => 1#1)
    ∧ (Cert.Pre_finite_nodes_and_graph_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.1 = (fun _ => 1#1)
    ∧ (Cert.Pre_finite_nodes_and_graph_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.1 = (fun _ => 1#1)
    ∧ (Cert.Pre_finite_nodes_and_graph_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.1 = (fun _ => 1#1)
    ∧ (Cert.Pre_finite_nodes_and_graph_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.1 = (fun _ => 1#1)
    ∧ (Cert.Pre_finite_nodes_and_graph_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.1 = (fun _ => 1#1)
    ∧ (Cert.Pre_finite_nodes_and_graph_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.2.1 = (fun _ => 1#1)
    ∧ (Cert.Pre_finite_nodes_and_graph_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.2.2.1 = (fun _ => 1#1)
    ∧ (Cert.Pre_finite_nodes_and_graph_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.2.2.2.1 = (fun _ => 1#1)
    ∧ (Cert.Pre_finite_nodes_and_graph_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_KernelIdeal_pre_finite_nodes_and_graph_ids [hKernelIdeal : Cert.KernelIdeal.Facts] [hPre_finite_nodes_and_graph_ids : Cert.Pre_finite_nodes_and_graph_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_nodes_and_graph_ids m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def quiescent_ReferenceIdeal_pre_finite_nodes_and_graph_ids [hReferenceIdeal : Cert.ReferenceIdeal.Facts] [hPre_finite_nodes_and_graph_ids : Cert.Pre_finite_nodes_and_graph_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_nodes_and_graph_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def preserves_Kernel_KernelIdeal : Prop :=
  True

def algebraic_KernelIdeal_ReferenceIdeal_pre_finite_nodes_and_graph_ids [hKernelIdeal : Cert.KernelIdeal.Facts] [hReferenceIdeal : Cert.ReferenceIdeal.Facts] [hPre_finite_nodes_and_graph_ids : Cert.Pre_finite_nodes_and_graph_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_nodes_and_graph_ids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v38_0)) (v3 : (c : Dev Cert.KernelIdeal.nD) → Buf (Elt Ideal) ((c.tc : Thread Cert.KernelIdeal.nD Cert.KernelIdeal.τ).loc Cert.KernelIdeal.main_v39)) (v4 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v38_0) = v2 c
          ∧ r.2.mem ((c.tc : Thread Cert.KernelIdeal.nD Cert.KernelIdeal.τ).loc Cert.KernelIdeal.main_v39) = v3 c
          ∧ r.2.mem ((c.tc : Thread Cert.KernelIdeal.nD Cert.KernelIdeal.τ).loc Cert.KernelIdeal.main_v40) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v134) = v2 c
          ∧ r.2.mem ((c.tc : Thread Cert.ReferenceIdeal.nD Cert.ReferenceIdeal.τ).loc Cert.ReferenceIdeal.main_v138) = v3 c
          ∧ r.2.mem ((c.tc : Thread Cert.ReferenceIdeal.nD Cert.ReferenceIdeal.τ).loc Cert.ReferenceIdeal.main_v139) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_nodes_and_graph_ids : Cert.Pre_finite_nodes_and_graph_ids.Facts),
    quiescent_Kernel (hKernel := hKernel)
    ∧ quiescent_KernelIdeal (hKernelIdeal := hKernelIdeal)
    ∧ quiescent_KernelIdeal_pre_finite_nodes_and_graph_ids (hKernelIdeal := hKernelIdeal) (hPre_finite_nodes_and_graph_ids := hPre_finite_nodes_and_graph_ids)
    ∧ quiescent_ReferenceIdeal (hReferenceIdeal := hReferenceIdeal)
    ∧ quiescent_ReferenceIdeal_pre_finite_nodes_and_graph_ids (hReferenceIdeal := hReferenceIdeal) (hPre_finite_nodes_and_graph_ids := hPre_finite_nodes_and_graph_ids)
    ∧ preserves_Kernel_KernelIdeal
    ∧ algebraic_KernelIdeal_ReferenceIdeal_pre_finite_nodes_and_graph_ids (hKernelIdeal := hKernelIdeal) (hReferenceIdeal := hReferenceIdeal) (hPre_finite_nodes_and_graph_ids := hPre_finite_nodes_and_graph_ids)
-- ==== Pre_finite_nodes_and_graph_ids.lean ====
abbrev S100000x128 : Shape := ⟨2, ![100000, 128]⟩
abbrev S64x128 : Shape := ⟨2, ![64, 128]⟩
abbrev S100000x3x128 : Shape := ⟨3, ![100000, 3, 128]⟩
abbrev S64x3x128 : Shape := ⟨3, ![64, 3, 128]⟩
abbrev S100000x16 : Shape := ⟨2, ![100000, 16]⟩
abbrev S100000x3 : Shape := ⟨2, ![100000, 3]⟩
abbrev S100000 : Shape := ⟨1, ![100000]⟩
abbrev S128x128 : Shape := ⟨2, ![128, 128]⟩
abbrev S128 : Shape := ⟨1, ![128]⟩
abbrev S128x384 : Shape := ⟨2, ![128, 384]⟩
abbrev S384 : Shape := ⟨1, ![384]⟩
abbrev S16x384 : Shape := ⟨2, ![16, 384]⟩
abbrev S256x128 : Shape := ⟨2, ![256, 128]⟩
abbrev S128x256 : Shape := ⟨2, ![128, 256]⟩
abbrev S128x1 : Shape := ⟨2, ![128, 1]⟩
abbrev S_ : Shape := ⟨0, ![]⟩

class Facts : Prop where
  bcast_S_S100000 : S_.BroadcastsInDim S100000 (![] : Fin 0 → Fin S100000.rank)
  bcast_S_S100000x128 : S_.BroadcastsInDim S100000x128 (![] : Fin 0 → Fin S100000x128.rank)
  bcast_S_S100000x3x128 : S_.BroadcastsInDim S100000x3x128 (![] : Fin 0 → Fin S100000x3x128.rank)
  bcast_S_S100000x16 : S_.BroadcastsInDim S100000x16 (![] : Fin 0 → Fin S100000x16.rank)
  bcast_S_S100000x3 : S_.BroadcastsInDim S100000x3 (![] : Fin 0 → Fin S100000x3.rank)
  bcast_S_S128x128 : S_.BroadcastsInDim S128x128 (![] : Fin 0 → Fin S128x128.rank)
  bcast_S_S128 : S_.BroadcastsInDim S128 (![] : Fin 0 → Fin S128.rank)
  bcast_S_S128x384 : S_.BroadcastsInDim S128x384 (![] : Fin 0 → Fin S128x384.rank)
  bcast_S_S384 : S_.BroadcastsInDim S384 (![] : Fin 0 → Fin S384.rank)
  bcast_S_S16x384 : S_.BroadcastsInDim S16x384 (![] : Fin 0 → Fin S16x384.rank)

variable [Facts]

def fn_part2 {F : FTy → Type} [FloatOps F] (main_v4 : IVec S100000 1) (main_v7 : IVec S100000x128 1) (main_v10 : IVec S100000x3x128 1) (main_v13 : IVec S100000x16 1) (main_v16 : IVec S100000x3 1) (main_v19 : IVec S128x128 1) (main_v22 : IVec S128 1) (main_v25 : IVec S128x384 1) (main_v28 : IVec S384 1) (main_v31 : IVec S16x384 1) (main_v34 : IVec S384 1) (main_v35 : FVec F S128x128 .f32) : IVec S100000 1 × IVec S100000x128 1 × IVec S100000x3x128 1 × IVec S100000x16 1 × IVec S100000x3 1 × IVec S128x128 1 × IVec S128 1 × IVec S128x384 1 × IVec S384 1 × IVec S16x384 1 × IVec S384 1 × IVec S128x128 1 :=
  let main_cst_10 : FVec F S_ .f32 := constant S_ .f32 0x7F800000#32
  let main_v36 : FVec F S128x128 .f32 := broadcastInDim S128x128 ![] bcast_S_S128x128 main_cst_10
  let main_v37 : IVec S128x128 1 := cmpf .olt main_v35 main_v36
  (main_v4, main_v7, main_v10, main_v13, main_v16, main_v19, main_v22, main_v25, main_v28, main_v31, main_v34, main_v37)

def fn_part1 {F : FTy → Type} [FloatOps F] (main_arg8 : FVec F S128 .f32) (main_arg9 : FVec F S128x384 .f32) (main_arg10 : FVec F S384 .f32) (main_arg11 : FVec F S16x384 .f32) (main_arg12 : FVec F S384 .f32) (main_arg17 : FVec F S128x128 .f32) (main_v4 : IVec S100000 1) (main_v7 : IVec S100000x128 1) (main_v10 : IVec S100000x3x128 1) (main_v13 : IVec S100000x16 1) (main_v16 : IVec S100000x3 1) (main_v17 : FVec F S128x128 .f32) : IVec S100000 1 × IVec S100000x128 1 × IVec S100000x3x128 1 × IVec S100000x16 1 × IVec S100000x3 1 × IVec S128x128 1 × IVec S128 1 × IVec S128x384 1 × IVec S384 1 × IVec S16x384 1 × IVec S384 1 × IVec S128x128 1 :=
  let main_cst_4 : FVec F S_ .f32 := constant S_ .f32 0x7F800000#32
  let main_v18 : FVec F S128x128 .f32 := broadcastInDim S128x128 ![] bcast_S_S128x128 main_cst_4
  let main_v19 : IVec S128x128 1 := cmpf .olt main_v17 main_v18
  let main_v20 : FVec F S128 .f32 := Host.absf main_arg8
  let main_cst_5 : FVec F S_ .f32 := constant S_ .f32 0x7F800000#32
  let main_v21 : FVec F S128 .f32 := broadcastInDim S128 ![] bcast_S_S128 main_cst_5
  let main_v22 : IVec S128 1 := cmpf .olt main_v20 main_v21
  let main_v23 : FVec F S128x384 .f32 := Host.absf main_arg9
  let main_cst_6 : FVec F S_ .f32 := constant S_ .f32 0x7F800000#32
  let main_v24 : FVec F S128x384 .f32 := broadcastInDim S128x384 ![] bcast_S_S128x384 main_cst_6
  let main_v25 : IVec S128x384 1 := cmpf .olt main_v23 main_v24
  let main_v26 : FVec F S384 .f32 := Host.absf main_arg10
  let main_cst_7 : FVec F S_ .f32 := constant S_ .f32 0x7F800000#32
  let main_v27 : FVec F S384 .f32 := broadcastInDim S384 ![] bcast_S_S384 main_cst_7
  let main_v28 : IVec S384 1 := cmpf .olt main_v26 main_v27
  let main_v29 : FVec F S16x384 .f32 := Host.absf main_arg11
  let main_cst_8 : FVec F S_ .f32 := constant S_ .f32 0x7F800000#32
  let main_v30 : FVec F S16x384 .f32 := broadcastInDim S16x384 ![] bcast_S_S16x384 main_cst_8
  let main_v31 : IVec S16x384 1 := cmpf .olt main_v29 main_v30
  let main_v32 : FVec F S384 .f32 := Host.absf main_arg12
  let main_cst_9 : FVec F S_ .f32 := constant S_ .f32 0x7F800000#32
  let main_v33 : FVec F S384 .f32 := broadcastInDim S384 ![] bcast_S_S384 main_cst_9
  let main_v34 : IVec S384 1 := cmpf .olt main_v32 main_v33
  let main_v35 : FVec F S128x128 .f32 := Host.absf main_arg17
  fn_part2 (F := F) main_v4 main_v7 main_v10 main_v13 main_v16 main_v19 main_v22 main_v25 main_v28 main_v31 main_v34 main_v35

def fn {F : FTy → Type} [FloatOps F] (main_arg0 : FVec F S100000x128 .f32) (main_arg1 : FVec F S64x128 .f32) (main_arg2 : FVec F S100000x3x128 .f32) (main_arg3 : FVec F S64x3x128 .f32) (main_arg4 : FVec F S100000x16 .f32) (main_arg5 : FVec F S100000x3 .f32) (main_arg6 : IVec S100000 32) (main_arg7 : FVec F S128x128 .f32) (main_arg8 : FVec F S128 .f32) (main_arg9 : FVec F S128x384 .f32) (main_arg10 : FVec F S384 .f32) (main_arg11 : FVec F S16x384 .f32) (main_arg12 : FVec F S384 .f32) (main_arg13 : FVec F S256x128 .f32) (main_arg14 : FVec F S128 .f32) (main_arg15 : FVec F S128x128 .f32) (main_arg16 : FVec F S128 .f32) (main_arg17 : FVec F S128x128 .f32) (main_arg18 : FVec F S256x128 .f32) (main_arg19 : FVec F S128 .f32) (main_arg20 : FVec F S128x128 .f32) (main_arg21 : FVec F S128 .f32) (main_arg22 : FVec F S128x128 .f32) (main_arg23 : FVec F S128x256 .f32) (main_arg24 : FVec F S256x128 .f32) (main_arg25 : FVec F S128 .f32) (main_arg26 : FVec F S128x384 .f32) (main_arg27 : FVec F S384 .f32) (main_arg28 : FVec F S128x1 .f32) : IVec S100000 1 × IVec S100000x128 1 × IVec S100000x3x128 1 × IVec S100000x16 1 × IVec S100000x3 1 × IVec S128x128 1 × IVec S128 1 × IVec S128x384 1 × IVec S384 1 × IVec S16x384 1 × IVec S384 1 × IVec S128x128 1 :=
  let main_c : IVec S_ 32 := constantI S_ 32 0#32
  let main_v0 : IVec S100000 32 := broadcastInDim S100000 ![] bcast_S_S100000 main_c
  let main_v1 : IVec S100000 1 := cmpi .sge main_arg6 main_v0
  let main_c_0 : IVec S_ 32 := constantI S_ 32 64#32
  let main_v2 : IVec S100000 32 := broadcastInDim S100000 ![] bcast_S_S100000 main_c_0
  let main_v3 : IVec S100000 1 := cmpi .slt main_arg6 main_v2
  let main_v4 : IVec S100000 1 := andi main_v1 main_v3
  let main_v5 : FVec F S100000x128 .f32 := Host.absf main_arg0
  let main_cst : FVec F S_ .f32 := constant S_ .f32 0x7F800000#32
  let main_v6 : FVec F S100000x128 .f32 := broadcastInDim S100000x128 ![] bcast_S_S100000x128 main_cst
  let main_v7 : IVec S100000x128 1 := cmpf .olt main_v5 main_v6
  let main_v8 : FVec F S100000x3x128 .f32 := Host.absf main_arg2
  let main_cst_1 : FVec F S_ .f32 := constant S_ .f32 0x7F800000#32
  let main_v9 : FVec F S100000x3x128 .f32 := broadcastInDim S100000x3x128 ![] bcast_S_S100000x3x128 main_cst_1
  let main_v10 : IVec S100000x3x128 1 := cmpf .olt main_v8 main_v9
  let main_v11 : FVec F S100000x16 .f32 := Host.absf main_arg4
  let main_cst_2 : FVec F S_ .f32 := constant S_ .f32 0x7F800000#32
  let main_v12 : FVec F S100000x16 .f32 := broadcastInDim S100000x16 ![] bcast_S_S100000x16 main_cst_2
  let main_v13 : IVec S100000x16 1 := cmpf .olt main_v11 main_v12
  let main_v14 : FVec F S100000x3 .f32 := Host.absf main_arg5
  let main_cst_3 : FVec F S_ .f32 := constant S_ .f32 0x7F800000#32
  let main_v15 : FVec F S100000x3 .f32 := broadcastInDim S100000x3 ![] bcast_S_S100000x3 main_cst_3
  let main_v16 : IVec S100000x3 1 := cmpf .olt main_v14 main_v15
  let main_v17 : FVec F S128x128 .f32 := Host.absf main_arg7
  fn_part1 (F := F) main_arg8 main_arg9 main_arg10 main_arg11 main_arg12 main_arg17 main_v4 main_v7 main_v10 main_v13 main_v16 main_v17
-- ==== Kernel.lean ====
abbrev S100000x128 : Shape := ⟨2, ![100000, 128]⟩
abbrev S64x128 : Shape := ⟨2, ![64, 128]⟩
abbrev S100000x3x128 : Shape := ⟨3, ![100000, 3, 128]⟩
abbrev S64x3x128 : Shape := ⟨3, ![64, 3, 128]⟩
abbrev S100000x16 : Shape := ⟨2, ![100000, 16]⟩
abbrev S100000x3 : Shape := ⟨2, ![100000, 3]⟩
abbrev S100000 : Shape := ⟨1, ![100000]⟩
abbrev S128x128 : Shape := ⟨2, ![128, 128]⟩
abbrev S128 : Shape := ⟨1, ![128]⟩
abbrev S128x384 : Shape := ⟨2, ![128, 384]⟩
abbrev S384 : Shape := ⟨1, ![384]⟩
abbrev S16x384 : Shape := ⟨2, ![16, 384]⟩
abbrev S256x128 : Shape := ⟨2, ![256, 128]⟩
abbrev S128x256 : Shape := ⟨2, ![128, 256]⟩
abbrev S128x1 : Shape := ⟨2, ![128, 1]⟩
abbrev S3x100000x128 : Shape := ⟨3, ![3, 100000, 128]⟩
abbrev S3x64x128 : Shape := ⟨3, ![3, 64, 128]⟩
abbrev S50x1x2000 : Shape := ⟨3, ![50, 1, 2000]⟩
abbrev S_ : Shape := ⟨0, ![]⟩
abbrev S256 : Shape := ⟨1, ![256]⟩
abbrev S1x384 : Shape := ⟨2, ![1, 384]⟩
abbrev S1x128 : Shape := ⟨2, ![1, 128]⟩
abbrev S50x64x128 : Shape := ⟨3, ![50, 64, 128]⟩
abbrev S50x64x384 : Shape := ⟨3, ![50, 64, 384]⟩
abbrev S50x64x8 : Shape := ⟨3, ![50, 64, 8]⟩
abbrev S2000x128 : Shape := ⟨2, ![2000, 128]⟩
abbrev S3x2000x128 : Shape := ⟨3, ![3, 2000, 128]⟩
abbrev S2000x16 : Shape := ⟨2, ![2000, 16]⟩
abbrev S2000x3 : Shape := ⟨2, ![2000, 3]⟩
abbrev S1x1x2000 : Shape := ⟨3, ![1, 1, 2000]⟩
abbrev S1x64x128 : Shape := ⟨3, ![1, 64, 128]⟩
abbrev S1x64x384 : Shape := ⟨3, ![1, 64, 384]⟩
abbrev S1x64x8 : Shape := ⟨3, ![1, 64, 8]⟩
abbrev S1x2000 : Shape := ⟨2, ![1, 2000]⟩
abbrev S64x1 : Shape := ⟨2, ![64, 1]⟩
abbrev S64x2000 : Shape := ⟨2, ![64, 2000]⟩
abbrev S2000x384 : Shape := ⟨2, ![2000, 384]⟩
abbrev S2000x8 : Shape := ⟨2, ![2000, 8]⟩
abbrev S64x8 : Shape := ⟨2, ![64, 8]⟩
abbrev S1x2000x128 : Shape := ⟨3, ![1, 2000, 128]⟩
abbrev S2000x1 : Shape := ⟨2, ![2000, 1]⟩
abbrev S3x64x1 : Shape := ⟨3, ![3, 64, 1]⟩
abbrev S64x384 : Shape := ⟨2, ![64, 384]⟩
abbrev S64x256 : Shape := ⟨2, ![64, 256]⟩
abbrev S1x64x1 : Shape := ⟨3, ![1, 64, 1]⟩
abbrev S64x3x1 : Shape := ⟨3, ![64, 3, 1]⟩

abbrev nBuf : Space → Nat
  | .hbm => 81
  | .vmem => 56
  | .smem => 0
  | _ => 0

abbrev bufTy : (tb : Table) → Fin (tcTables nBuf tb) → BufTy
  | .hbm, ⟨0, _⟩ => ⟨S100000x128, .f32⟩
  | .hbm, ⟨1, _⟩ => ⟨S64x128, .f32⟩
  | .hbm, ⟨2, _⟩ => ⟨S100000x3x128, .f32⟩
  | .hbm, ⟨3, _⟩ => ⟨S64x3x128, .f32⟩
  | .hbm, ⟨4, _⟩ => ⟨S100000x16, .f32⟩
  | .hbm, ⟨5, _⟩ => ⟨S100000x3, .f32⟩
  | .hbm, ⟨6, _⟩ => ⟨S100000, .i32⟩
  | .hbm, ⟨7, _⟩ => ⟨S128x128, .f32⟩
  | .hbm, ⟨8, _⟩ => ⟨S128, .f32⟩
  | .hbm, ⟨9, _⟩ => ⟨S128x384, .f32⟩
  | .hbm, ⟨10, _⟩ => ⟨S384, .f32⟩
  | .hbm, ⟨11, _⟩ => ⟨S16x384, .f32⟩
  | .hbm, ⟨12, _⟩ => ⟨S384, .f32⟩
  | .hbm, ⟨13, _⟩ => ⟨S256x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S256x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S128x128, .f32⟩
  | .hbm, ⟨23, _⟩ => ⟨S128x256, .f32⟩
  | .hbm, ⟨24, _⟩ => ⟨S256x128, .f32⟩
  | .hbm, ⟨25, _⟩ => ⟨S128, .f32⟩
  | .hbm, ⟨26, _⟩ => ⟨S128x384, .f32⟩
  | .hbm, ⟨27, _⟩ => ⟨S384, .f32⟩
  | .hbm, ⟨28, _⟩ => ⟨S128x1, .f32⟩
  | .hbm, ⟨29, _⟩ => ⟨S3x100000x128, .f32⟩
  | .hbm, ⟨30, _⟩ => ⟨S3x64x128, .f32⟩
  | .hbm, ⟨31, _⟩ => ⟨S50x1x2000, .i32⟩
  | .hbm, ⟨32, _⟩ => ⟨S_, .f32⟩
  | .hbm, ⟨33, _⟩ => ⟨S256, .f32⟩
  | .hbm, ⟨34, _⟩ => ⟨S_, .f32⟩
  | .hbm, ⟨35, _⟩ => ⟨S128, .f32⟩
  | .hbm, ⟨36, _⟩ => ⟨S384, .f32⟩
  | .hbm, ⟨37, _⟩ => ⟨S1x384, .f32⟩
  | .hbm, ⟨38, _⟩ => ⟨S16x384, .f32⟩
  | .hbm, ⟨39, _⟩ => ⟨S16x384, .f32⟩
  | .hbm, ⟨40, _⟩ => ⟨S384, .f32⟩
  | .hbm, ⟨41, _⟩ => ⟨S_, .f32⟩
  | .hbm, ⟨42, _⟩ => ⟨S128x384, .f32⟩
  | .hbm, ⟨43, _⟩ => ⟨S128x384, .f32⟩
  | .hbm, ⟨44, _⟩ => ⟨S_, .f32⟩
  | .hbm, ⟨45, _⟩ => ⟨S128x128, .f32⟩
  | .hbm, ⟨46, _⟩ => ⟨S128x128, .f32⟩
  | .hbm, ⟨47, _⟩ => ⟨S128x128, .i32⟩
  | .hbm, ⟨48, _⟩ => ⟨S128x128, .i32⟩
  | .hbm, ⟨49, _⟩ => ⟨S_, .i32⟩
  | .hbm, ⟨50, _⟩ => ⟨S128x128, .i32⟩
  | .hbm, ⟨51, _⟩ => ⟨S128x128, .i32⟩
  | .hbm, ⟨52, _⟩ => ⟨S128x128, .i1⟩
  | .hbm, ⟨53, _⟩ => ⟨S128x128, .f32⟩
  | .hbm, ⟨54, _⟩ => ⟨S128x128, .f32⟩
  | .hbm, ⟨55, _⟩ => ⟨S1x128, .f32⟩
  | .hbm, ⟨56, _⟩ => ⟨S1x384, .f32⟩
  | .hbm, ⟨57, _⟩ => ⟨S1x384, .f32⟩
  | .hbm, ⟨58, _⟩ => ⟨S128x128, .f32⟩
  | .hbm, ⟨59, _⟩ => ⟨S128x128, .f32⟩
  | .hbm, ⟨60, _⟩ => ⟨S1x128, .f32⟩
  | .hbm, ⟨61, _⟩ => ⟨S1x128, .f32⟩
  | .hbm, ⟨62, _⟩ => ⟨S100000x128, .f32⟩
  | .hbm, ⟨63, _⟩ => ⟨S3x100000x128, .f32⟩
  | .hbm, ⟨64, _⟩ => ⟨S50x64x128, .f32⟩
  | .hbm, ⟨65, _⟩ => ⟨S50x64x384, .f32⟩
  | .hbm, ⟨66, _⟩ => ⟨S50x64x8, .f32⟩
  | .hbm, ⟨67, _⟩ => ⟨S100000x3x128, .f32⟩
  | .hbm, ⟨68, _⟩ => ⟨S128x128, .f32⟩
  | .hbm, ⟨69, _⟩ => ⟨S128x128, .f32⟩
  | .hbm, ⟨70, _⟩ => ⟨S1x128, .f32⟩
  | .hbm, ⟨71, _⟩ => ⟨S1x128, .f32⟩
  | .hbm, ⟨72, _⟩ => ⟨S128x128, .f32⟩
  | .hbm, ⟨73, _⟩ => ⟨S128x128, .f32⟩
  | .hbm, ⟨74, _⟩ => ⟨S1x128, .f32⟩
  | .hbm, ⟨75, _⟩ => ⟨S1x384, .f32⟩
  | .hbm, ⟨76, _⟩ => ⟨S64x128, .f32⟩
  | .hbm, ⟨77, _⟩ => ⟨S3x64x128, .f32⟩
  | .hbm, ⟨78, _⟩ => ⟨S3x64x1, .f32⟩
  | .hbm, ⟨79, _⟩ => ⟨S64x3x128, .f32⟩
  | .hbm, ⟨80, _⟩ => ⟨S64x3x1, .f32⟩
  | .local _ .vmem, ⟨0, _⟩ => ⟨S2000x128, .f32⟩
  | .local _ .vmem, ⟨1, _⟩ => ⟨S2000x128, .f32⟩
  | .local _ .vmem, ⟨2, _⟩ => ⟨S3x2000x128, .f32⟩
  | .local _ .vmem, ⟨3, _⟩ => ⟨S3x2000x128, .f32⟩
  | .local _ .vmem, ⟨4, _⟩ => ⟨S2000x16, .f32⟩
  | .local _ .vmem, ⟨5, _⟩ => ⟨S2000x16, .f32⟩
  | .local _ .vmem, ⟨6, _⟩ => ⟨S2000x3, .f32⟩
  | .local _ .vmem, ⟨7, _⟩ => ⟨S2000x3, .f32⟩
  | .local _ .vmem, ⟨8, _⟩ => ⟨S1x1x2000, .i32⟩
  | .local _ .vmem, ⟨9, _⟩ => ⟨S1x1x2000, .i32⟩
  | .local _ .vmem, ⟨10, _⟩ => ⟨S64x128, .f32⟩
  | .local _ .vmem, ⟨11, _⟩ => ⟨S3x64x128, .f32⟩
  | .local _ .vmem, ⟨12, _⟩ => ⟨S128x128, .f32⟩
  | .local _ .vmem, ⟨13, _⟩ => ⟨S1x128, .f32⟩
  | .local _ .vmem, ⟨14, _⟩ => ⟨S128x384, .f32⟩
  | .local _ .vmem, ⟨15, _⟩ => ⟨S1x384, .f32⟩
  | .local _ .vmem, ⟨16, _⟩ => ⟨S16x384, .f32⟩
  | .local _ .vmem, ⟨17, _⟩ => ⟨S1x384, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S128x128, .f32⟩
  | .local _ .vmem, ⟨25, _⟩ => ⟨S2000x128, .f32⟩
  | .local _ .vmem, ⟨26, _⟩ => ⟨S2000x128, .f32⟩
  | .local _ .vmem, ⟨27, _⟩ => ⟨S3x2000x128, .f32⟩
  | .local _ .vmem, ⟨28, _⟩ => ⟨S3x2000x128, .f32⟩
  | .local _ .vmem, ⟨29, _⟩ => ⟨S1x64x128, .f32⟩
  | .local _ .vmem, ⟨30, _⟩ => ⟨S1x64x128, .f32⟩
  | .local _ .vmem, ⟨31, _⟩ => ⟨S1x64x384, .f32⟩
  | .local _ .vmem, ⟨32, _⟩ => ⟨S1x64x384, .f32⟩
  | .local _ .vmem, ⟨33, _⟩ => ⟨S1x64x8, .f32⟩
  | .local _ .vmem, ⟨34, _⟩ => ⟨S1x64x8, .f32⟩
  | .local _ .vmem, ⟨35, _⟩ => ⟨S50x64x128, .f32⟩
  | .local _ .vmem, ⟨36, _⟩ => ⟨S50x64x384, .f32⟩
  | .local _ .vmem, ⟨37, _⟩ => ⟨S50x64x8, .f32⟩
  | .local _ .vmem, ⟨38, _⟩ => ⟨S64x128, .f32⟩
  | .local _ .vmem, ⟨39, _⟩ => ⟨S3x64x128, .f32⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S128x128, .f32⟩
  | .local _ .vmem, ⟨44, _⟩ => ⟨S1x128, .f32⟩
  | .local _ .vmem, ⟨45, _⟩ => ⟨S128x128, .f32⟩
  | .local _ .vmem, ⟨46, _⟩ => ⟨S128x256, .f32⟩
  | .local _ .vmem, ⟨47, _⟩ => ⟨S128x128, .f32⟩
  | .local _ .vmem, ⟨48, _⟩ => ⟨S128x128, .f32⟩
  | .local _ .vmem, ⟨49, _⟩ => ⟨S1x128, .f32⟩
  | .local _ .vmem, ⟨50, _⟩ => ⟨S128x384, .f32⟩
  | .local _ .vmem, ⟨51, _⟩ => ⟨S1x384, .f32⟩
  | .local _ .vmem, ⟨52, _⟩ => ⟨S128x1, .f32⟩
  | .local _ .vmem, ⟨53, _⟩ => ⟨S64x128, .f32⟩
  | .local _ .vmem, ⟨54, _⟩ => ⟨S3x64x128, .f32⟩
  | .local _ .vmem, ⟨55, _⟩ => ⟨S3x64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_cst : Ref sig .tc := ⟨.hbm, 32, rfl⟩
abbrev main_v3 : Ref sig .tc := ⟨.hbm, 33, rfl⟩
abbrev main_cst_0 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_1 : Ref sig .tc := ⟨.hbm, 41, rfl⟩
abbrev main_v10 : Ref sig .tc := ⟨.hbm, 42, rfl⟩
abbrev main_v11 : Ref sig .tc := ⟨.hbm, 43, rfl⟩
abbrev main_cst_2 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_c : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28_0 : Ref sig .tc := ⟨.hbm, 62, rfl⟩
abbrev main_v28_1 : Ref sig .tc := ⟨.hbm, 63, rfl⟩
abbrev main_v28_2 : Ref sig .tc := ⟨.hbm, 64, rfl⟩
abbrev main_v28_3 : Ref sig .tc := ⟨.hbm, 65, rfl⟩
abbrev main_v28_4 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38_0 : Ref sig .tc := ⟨.hbm, 76, rfl⟩
abbrev main_v38_1 : Ref sig .tc := ⟨.hbm, 77, rfl⟩
abbrev main_v38_2 : Ref sig .tc := ⟨.hbm, 78, rfl⟩
abbrev main_v39 : Ref sig .tc := ⟨.hbm, 79, rfl⟩
abbrev main_v40 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc1_stg0_0 : Ref sig .tc := ⟨.vmem, 35, rfl⟩
abbrev cc1_stg1_0 : Ref sig .tc := ⟨.vmem, 36, rfl⟩
abbrev cc1_stg2_0 : Ref sig .tc := ⟨.vmem, 37, rfl⟩
abbrev cc1_stg3_0 : Ref sig .tc := ⟨.vmem, 38, rfl⟩
abbrev cc1_stg4_0 : Ref sig .tc := ⟨.vmem, 39, rfl⟩
abbrev cc1_stg5_0 : Ref sig .tc := ⟨.vmem, 40, rfl⟩
abbrev cc1_stg6_0 : Ref sig .tc := ⟨.vmem, 41, rfl⟩
abbrev cc1_stg7_0 : Ref sig .tc := ⟨.vmem, 42, rfl⟩
abbrev cc1_stg8_0 : Ref sig .tc := ⟨.vmem, 43, rfl⟩
abbrev cc1_stg9_0 : Ref sig .tc := ⟨.vmem, 44, rfl⟩
abbrev cc1_stg10_0 : Ref sig .tc := ⟨.vmem, 45, rfl⟩
abbrev cc1_stg11_0 : Ref sig .tc := ⟨.vmem, 46, rfl⟩
abbrev cc1_stg12_0 : Ref sig .tc := ⟨.vmem, 47, rfl⟩
abbrev cc1_stg13_0 : Ref sig .tc := ⟨.vmem, 48, rfl⟩
abbrev cc1_stg14_0 : Ref sig .tc := ⟨.vmem, 49, rfl⟩
abbrev cc1_stg15_0 : Ref sig .tc := ⟨.vmem, 50, rfl⟩
abbrev cc1_stg16_0 : Ref sig .tc := ⟨.vmem, 51, rfl⟩
abbrev cc1_stg17_0 : Ref sig .tc := ⟨.vmem, 52, rfl⟩
abbrev cc1_stg18_0 : Ref sig .tc := ⟨.vmem, 53, rfl⟩
abbrev cc1_stg19_0 : Ref sig .tc := ⟨.vmem, 54, rfl⟩
abbrev cc1_stg20_0 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34
abbrev cc1_sem0_0 : DmaSem sig := 35
abbrev cc1_sem1_0 : DmaSem sig := 36
abbrev cc1_sem2_0 : DmaSem sig := 37
abbrev cc1_sem3_0 : DmaSem sig := 38
abbrev cc1_sem4_0 : DmaSem sig := 39
abbrev cc1_sem5_0 : DmaSem sig := 40
abbrev cc1_sem6_0 : DmaSem sig := 41
abbrev cc1_sem7_0 : DmaSem sig := 42
abbrev cc1_sem8_0 : DmaSem sig := 43
abbrev cc1_sem9_0 : DmaSem sig := 44
abbrev cc1_sem10_0 : DmaSem sig := 45
abbrev cc1_sem11_0 : DmaSem sig := 46
abbrev cc1_sem12_0 : DmaSem sig := 47
abbrev cc1_sem13_0 : DmaSem sig := 48
abbrev cc1_sem14_0 : DmaSem sig := 49
abbrev cc1_sem15_0 : DmaSem sig := 50
abbrev cc1_sem16_0 : DmaSem sig := 51
abbrev cc1_sem17_0 : DmaSem sig := 52
abbrev cc1_sem18_0 : DmaSem sig := 53
abbrev cc1_sem19_0 : DmaSem sig := 54
abbrev cc1_sem20_0 : DmaSem sig := 55

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2000 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S2000x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S3x2000x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x64x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x64x384 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x64x8 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev grid1 : Pipeline.Grid := .none

abbrev stage1_0 : Fin 1 → Memref sig .tc .vmem S50x64x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S50x64x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S50x64x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S3x64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S128x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S128x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S128x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S128x384 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev stage1_16 : Fin 1 → Memref sig .tc .vmem S1x384 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))

abbrev stage1_17 : Fin 1 → Memref sig .tc .vmem S128x1 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))

abbrev stage1_18 : Fin 1 → Memref sig .tc .vmem S64x128 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))

abbrev stage1_19 : Fin 1 → Memref sig .tc .vmem S3x64x128 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))

abbrev stage1_20 : Fin 1 → Memref sig .tc .vmem S3x64x1 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
-- ==== ReferenceIdeal.lean ====
abbrev S100000x128 : Shape := ⟨2, ![100000, 128]⟩
abbrev S64x128 : Shape := ⟨2, ![64, 128]⟩
abbrev S100000x3x128 : Shape := ⟨3, ![100000, 3, 128]⟩
abbrev S64x3x128 : Shape := ⟨3, ![64, 3, 128]⟩
abbrev S100000x16 : Shape := ⟨2, ![100000, 16]⟩
abbrev S100000x3 : Shape := ⟨2, ![100000, 3]⟩
abbrev S100000 : Shape := ⟨1, ![100000]⟩
abbrev S128x128 : Shape := ⟨2, ![128, 128]⟩
abbrev S128 : Shape := ⟨1, ![128]⟩
abbrev S128x384 : Shape := ⟨2, ![128, 384]⟩
abbrev S384 : Shape := ⟨1, ![384]⟩
abbrev S16x384 : Shape := ⟨2, ![16, 384]⟩
abbrev S256x128 : Shape := ⟨2, ![256, 128]⟩
abbrev S128x256 : Shape := ⟨2, ![128, 256]⟩
abbrev S128x1 : Shape := ⟨2, ![128, 1]⟩
abbrev S1x128 : Shape := ⟨2, ![1, 128]⟩
abbrev S_ : Shape := ⟨0, ![]⟩
abbrev S100000x384 : Shape := ⟨2, ![100000, 384]⟩
abbrev S1x384 : Shape := ⟨2, ![1, 384]⟩
abbrev S100000x1x128 : Shape := ⟨3, ![100000, 1, 128]⟩
abbrev S100000x3x1 : Shape := ⟨3, ![100000, 3, 1]⟩
abbrev S100000x1 : Shape := ⟨2, ![100000, 1]⟩
abbrev S100000x256 : Shape := ⟨2, ![100000, 256]⟩
abbrev S64 : Shape := ⟨1, ![64]⟩
abbrev S64x1 : Shape := ⟨2, ![64, 1]⟩
abbrev S64x256 : Shape := ⟨2, ![64, 256]⟩
abbrev S64x1x1 : Shape := ⟨3, ![64, 1, 1]⟩
abbrev S64x3x256 : Shape := ⟨3, ![64, 3, 256]⟩
abbrev S64x384 : Shape := ⟨2, ![64, 384]⟩
abbrev S64x1x128 : Shape := ⟨3, ![64, 1, 128]⟩
abbrev S64x3x1 : Shape := ⟨3, ![64, 3, 1]⟩

abbrev nBuf : Space → Nat
  | .hbm => 239
  | .vmem => 0
  | .smem => 0
  | _ => 0

abbrev hbmTy0_0 (i : Nat) : BufTy := match i % 128 with
  | 0 => ⟨S100000x128, .f32⟩
  | 1 => ⟨S64x128, .f32⟩
  | 2 => ⟨S100000x3x128, .f32⟩
  | 3 => ⟨S64x3x128, .f32⟩
  | 4 => ⟨S100000x16, .f32⟩
  | 5 => ⟨S100000x3, .f32⟩
  | 6 => ⟨S100000, .i32⟩
  | 7 => ⟨S128x128, .f32⟩
  | 8 => ⟨S128, .f32⟩
  | 9 => ⟨S128x384, .f32⟩
  | 10 => ⟨S384, .f32⟩
  | 11 => ⟨S16x384, .f32⟩
  | 12 => ⟨S384, .f32⟩
  | 13 => ⟨S256x128, .f32⟩
  | 14 => ⟨S128, .f32⟩
  | 15 => ⟨S128x128, .f32⟩
  | 16 => ⟨S128, .f32⟩
  | 17 => ⟨S128x128, .f32⟩
  | 18 => ⟨S256x128, .f32⟩
  | 19 => ⟨S128, .f32⟩
  | 20 => ⟨S128x128, .f32⟩
  | 21 => ⟨S128, .f32⟩
  | 22 => ⟨S128x128, .f32⟩
  | 23 => ⟨S128x256, .f32⟩
  | 24 => ⟨S256x128, .f32⟩
  | 25 => ⟨S128, .f32⟩
  | 26 => ⟨S128x384, .f32⟩
  | 27 => ⟨S384, .f32⟩
  | 28 => ⟨S128x1, .f32⟩
  | 29 => ⟨S100000x128, .f32⟩
  | 30 => ⟨S1x128, .f32⟩
  | 31 => ⟨S100000x128, .f32⟩
  | 32 => ⟨S100000x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S100000x384, .f32⟩
  | 46 => ⟨S1x384, .f32⟩
  | 47 => ⟨S100000x384, .f32⟩
  | 48 => ⟨S100000x384, .f32⟩
  | 49 => ⟨S100000x384, .f32⟩
  | 50 => ⟨S1x384, .f32⟩
  | 51 => ⟨S100000x384, .f32⟩
  | 52 => ⟨S100000x384, .f32⟩
  | 53 => ⟨S100000x384, .f32⟩
  | 54 => ⟨S100000x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S100000x128, .f32⟩
  | 61 => ⟨S100000x1x128, .f32⟩
  | 62 => ⟨S100000x3x128, .f32⟩
  | 63 => ⟨S100000x3x128, .f32⟩
  | 64 => ⟨S100000x1x128, .f32⟩
  | 65 => ⟨S100000x3x1, .f32⟩
  | 66 => ⟨S100000x3x128, .f32⟩
  | 67 => ⟨S100000x3x128, .f32⟩
  | 68 => ⟨S100000x3x128, .f32⟩
  | 69 => ⟨S100000x3x128, .f32⟩
  | 70 => ⟨S_, .f32⟩
  | 71 => ⟨S100000x3x128, .f32⟩
  | 72 => ⟨S100000x3x128, .f32⟩
  | 73 => ⟨S_, .i32⟩
  | 74 => ⟨S100000, .i32⟩
  | 75 => ⟨S100000, .i1⟩
  | 76 => ⟨S_, .i32⟩
  | 77 => ⟨S100000, .i32⟩
  | 78 => ⟨S100000, .i32⟩
  | 79 => ⟨S100000, .i32⟩
  | 80 => ⟨S100000x1, .i32⟩
  | 81 => ⟨S100000x128, .f32⟩
  | 82 => ⟨S100000x256, .f32⟩
  | 83 => ⟨S100000x128, .f32⟩
  | 84 => ⟨S1x128, .f32⟩
  | 85 => ⟨S100000x128, .f32⟩
  | 86 => ⟨S100000x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S100000x128, .f32⟩
  | 116 => ⟨S_, .i32⟩
  | 117 => ⟨S100000, .i32⟩
  | 118 => ⟨S100000, .i1⟩
  | 119 => ⟨S_, .i32⟩
  | 120 => ⟨S100000, .i32⟩
  | 121 => ⟨S100000, .i32⟩
  | 122 => ⟨S100000, .i32⟩
  | 123 => ⟨S100000x1, .i32⟩
  | 124 => ⟨S100000x3x128, .f32⟩
  | 125 => ⟨S100000x3x128, .f32⟩
  | 126 => ⟨S100000x3x128, .f32⟩
  | 127 => ⟨S100000x3x128, .f32⟩
  | _ => ⟨S100000x128, .f32⟩

abbrev hbmTy0_1 (i : Nat) : BufTy := match i % 128 with
  | 0 => ⟨S_, .f32⟩
  | 1 => ⟨S64x128, .f32⟩
  | 2 => ⟨S100000x1, .i32⟩
  | 3 => ⟨S64x128, .f32⟩
  | 4 => ⟨S_, .f32⟩
  | 5 => ⟨S100000, .f32⟩
  | 6 => ⟨S_, .f32⟩
  | 7 => ⟨S64, .f32⟩
  | 8 => ⟨S100000x1, .i32⟩
  | 9 => ⟨S64, .f32⟩
  | 10 => ⟨S_, .f32⟩
  | 11 => ⟨S64, .f32⟩
  | 12 => ⟨S64, .f32⟩
  | 13 => ⟨S64x1, .f32⟩
  | 14 => ⟨S64x128, .f32⟩
  | 15 => ⟨S64x128, .f32⟩
  | 16 => ⟨S64x256, .f32⟩
  | 17 => ⟨S64x128, .f32⟩
  | 18 => ⟨S1x128, .f32⟩
  | 19 => ⟨S64x128, .f32⟩
  | 20 => ⟨S64x128, .f32⟩
  | 21 => ⟨S64x128, .f32⟩
  | 22 => ⟨S64x128, .f32⟩
  | 23 => ⟨S_, .f32⟩
  | 24 => ⟨S64x128, .f32⟩
  | 25 => ⟨S64x128, .f32⟩
  | 26 => ⟨S_, .f32⟩
  | 27 => ⟨S64x128, .f32⟩
  | 28 => ⟨S64x128, .f32⟩
  | 29 => ⟨S64x128, .f32⟩
  | 30 => ⟨S_, .f32⟩
  | 31 => ⟨S64x128, .f32⟩
  | 32 => ⟨S64x128, .f32⟩
  | 33 => ⟨S64x128, .f32⟩
  | 34 => ⟨S1x128, .f32⟩
  | 35 => ⟨S64x128, .f32⟩
  | 36 => ⟨S64x128, .f32⟩
  | 37 => ⟨S64x128, .f32⟩
  | 38 => ⟨S64x128, .f32⟩
  | 39 => ⟨S_, .f32⟩
  | 40 => ⟨S64x128, .f32⟩
  | 41 => ⟨S64x128, .f32⟩
  | 42 => ⟨S_, .f32⟩
  | 43 => ⟨S64x128, .f32⟩
  | 44 => ⟨S64x128, .f32⟩
  | 45 => ⟨S64x128, .f32⟩
  | 46 => ⟨S_, .f32⟩
  | 47 => ⟨S64x128, .f32⟩
  | 48 => ⟨S64x128, .f32⟩
  | 49 => ⟨S_, .f32⟩
  | 50 => ⟨S64x3x128, .f32⟩
  | 51 => ⟨S100000x1, .i32⟩
  | 52 => ⟨S64x3x128, .f32⟩
  | 53 => ⟨S_, .f32⟩
  | 54 => ⟨S100000, .f32⟩
  | 55 => ⟨S_, .f32⟩
  | 56 => ⟨S64, .f32⟩
  | 57 => ⟨S100000x1, .i32⟩
  | 58 => ⟨S64, .f32⟩
  | 59 => ⟨S_, .f32⟩
  | 60 => ⟨S64, .f32⟩
  | 61 => ⟨S64, .f32⟩
  | 62 => ⟨S64x1x1, .f32⟩
  | 63 => ⟨S64x3x128, .f32⟩
  | 64 => ⟨S64x3x128, .f32⟩
  | 65 => ⟨S64x3x128, .f32⟩
  | 66 => ⟨S64x3x128, .f32⟩
  | 67 => ⟨S64x128, .f32⟩
  | 68 => ⟨S64x3x128, .f32⟩
  | 69 => ⟨S64x3x256, .f32⟩
  | 70 => ⟨S64x3x128, .f32⟩
  | 71 => ⟨S64x3x128, .f32⟩
  | 72 => ⟨S64x3x128, .f32⟩
  | 73 => ⟨S_, .f32⟩
  | 74 => ⟨S64x128, .f32⟩
  | 75 => ⟨S_, .f32⟩
  | 76 => ⟨S64x128, .f32⟩
  | 77 => ⟨S64x128, .f32⟩
  | 78 => ⟨S64x128, .f32⟩
  | 79 => ⟨S64x256, .f32⟩
  | 80 => ⟨S64x128, .f32⟩
  | 81 => ⟨S1x128, .f32⟩
  | 82 => ⟨S64x128, .f32⟩
  | 83 => ⟨S64x128, .f32⟩
  | 84 => ⟨S64x128, .f32⟩
  | 85 => ⟨S64x128, .f32⟩
  | 86 => ⟨S_, .f32⟩
  | 87 => ⟨S64x128, .f32⟩
  | 88 => ⟨S64x128, .f32⟩
  | 89 => ⟨S_, .f32⟩
  | 90 => ⟨S64x128, .f32⟩
  | 91 => ⟨S64x128, .f32⟩
  | 92 => ⟨S64x128, .f32⟩
  | 93 => ⟨S_, .f32⟩
  | 94 => ⟨S64x128, .f32⟩
  | 95 => ⟨S64x128, .f32⟩
  | 96 => ⟨S64x384, .f32⟩
  | 97 => ⟨S1x384, .f32⟩
  | 98 => ⟨S64x384, .f32⟩
  | 99 => ⟨S64x384, .f32⟩
  | 100 => ⟨S64x128, .f32⟩
  | 101 => ⟨S64x128, .f32⟩
  | 102 => ⟨S64x128, .f32⟩
  | 103 => ⟨S64x128, .f32⟩
  | 104 => ⟨S64x128, .f32⟩
  | 105 => ⟨S64x128, .f32⟩
  | 106 => ⟨S64x1x128, .f32⟩
  | 107 => ⟨S64x3x128, .f32⟩
  | 108 => ⟨S64x3x128, .f32⟩
  | 109 => ⟨S64x3x128, .f32⟩
  | 110 => ⟨S64x3x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_cst_0 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_1 : Ref sig .tc := ⟨.hbm, 70, rfl⟩
abbrev main_v31 : Ref sig .tc := ⟨.hbm, 71, rfl⟩
abbrev main_v32 : Ref sig .tc := ⟨.hbm, 72, rfl⟩
abbrev main_c : Ref sig .tc := ⟨.hbm, 73, rfl⟩
abbrev main_v33 : Ref sig .tc := ⟨.hbm, 74, rfl⟩
abbrev main_v34 : Ref sig .tc := ⟨.hbm, 75, rfl⟩
abbrev main_c_2 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_call1_v0 : Ref sig .tc := ⟨.hbm, 87, rfl⟩
abbrev main_call1_v1 : Ref sig .tc := ⟨.hbm, 88, rfl⟩
abbrev main_call1_cst : Ref sig .tc := ⟨.hbm, 89, rfl⟩
abbrev main_call1_v2 : Ref sig .tc := ⟨.hbm, 90, rfl⟩
abbrev main_call1_v3 : Ref sig .tc := ⟨.hbm, 91, rfl⟩
abbrev main_call1_cst_0 : Ref sig .tc := ⟨.hbm, 92, rfl⟩
abbrev main_call1_v4 : Ref sig .tc := ⟨.hbm, 93, rfl⟩
abbrev main_call1_v5 : Ref sig .tc := ⟨.hbm, 94, rfl⟩
abbrev main_v45 : Ref sig .tc := ⟨.hbm, 95, rfl⟩
abbrev main_cst_3 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_call2_v0 : Ref sig .tc := ⟨.hbm, 103, rfl⟩
abbrev main_call2_v1 : Ref sig .tc := ⟨.hbm, 104, rfl⟩
abbrev main_call2_cst : Ref sig .tc := ⟨.hbm, 105, rfl⟩
abbrev main_call2_v2 : Ref sig .tc := ⟨.hbm, 106, rfl⟩
abbrev main_call2_v3 : Ref sig .tc := ⟨.hbm, 107, rfl⟩
abbrev main_call2_cst_0 : Ref sig .tc := ⟨.hbm, 108, rfl⟩
abbrev main_call2_v4 : Ref sig .tc := ⟨.hbm, 109, rfl⟩
abbrev main_call2_v5 : Ref sig .tc := ⟨.hbm, 110, rfl⟩
abbrev main_v52 : Ref sig .tc := ⟨.hbm, 111, rfl⟩
abbrev main_cst_4 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_c_5 : Ref sig .tc := ⟨.hbm, 116, rfl⟩
abbrev main_v56 : Ref sig .tc := ⟨.hbm, 117, rfl⟩
abbrev main_v57 : Ref sig .tc := ⟨.hbm, 118, rfl⟩
abbrev main_c_6 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_cst_7 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_cst_8 : Ref sig .tc := ⟨.hbm, 132, rfl⟩
abbrev main_v69 : Ref sig .tc := ⟨.hbm, 133, rfl⟩
abbrev main_cst_9 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_cst_10 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_call3_v0 : Ref sig .tc := ⟨.hbm, 149, rfl⟩
abbrev main_call3_v1 : Ref sig .tc := ⟨.hbm, 150, rfl⟩
abbrev main_call3_cst : Ref sig .tc := ⟨.hbm, 151, rfl⟩
abbrev main_call3_v2 : Ref sig .tc := ⟨.hbm, 152, rfl⟩
abbrev main_call3_v3 : Ref sig .tc := ⟨.hbm, 153, rfl⟩
abbrev main_call3_cst_0 : Ref sig .tc := ⟨.hbm, 154, rfl⟩
abbrev main_call3_v4 : Ref sig .tc := ⟨.hbm, 155, rfl⟩
abbrev main_call3_v5 : Ref sig .tc := ⟨.hbm, 156, rfl⟩
abbrev main_v83 : Ref sig .tc := ⟨.hbm, 157, rfl⟩
abbrev main_cst_11 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_call4_v0 : Ref sig .tc := ⟨.hbm, 165, rfl⟩
abbrev main_call4_v1 : Ref sig .tc := ⟨.hbm, 166, rfl⟩
abbrev main_call4_cst : Ref sig .tc := ⟨.hbm, 167, rfl⟩
abbrev main_call4_v2 : Ref sig .tc := ⟨.hbm, 168, rfl⟩
abbrev main_call4_v3 : Ref sig .tc := ⟨.hbm, 169, rfl⟩
abbrev main_call4_cst_0 : Ref sig .tc := ⟨.hbm, 170, rfl⟩
abbrev main_call4_v4 : Ref sig .tc := ⟨.hbm, 171, rfl⟩
abbrev main_call4_v5 : Ref sig .tc := ⟨.hbm, 172, rfl⟩
abbrev main_v90 : Ref sig .tc := ⟨.hbm, 173, rfl⟩
abbrev main_cst_12 : Ref sig .tc := ⟨.hbm, 174, rfl⟩
abbrev main_v91 : Ref sig .tc := ⟨.hbm, 175, rfl⟩
abbrev main_v92 : Ref sig .tc := ⟨.hbm, 176, rfl⟩
abbrev main_cst_13 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_cst_14 : Ref sig .tc := ⟨.hbm, 181, rfl⟩
abbrev main_v96 : Ref sig .tc := ⟨.hbm, 182, rfl⟩
abbrev main_cst_15 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_cst_16 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_cst_17 : Ref sig .tc := ⟨.hbm, 201, rfl⟩
abbrev main_v113 : Ref sig .tc := ⟨.hbm, 202, rfl⟩
abbrev main_cst_18 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_call5_v0 : Ref sig .tc := ⟨.hbm, 212, rfl⟩
abbrev main_call5_v1 : Ref sig .tc := ⟨.hbm, 213, rfl⟩
abbrev main_call5_cst : Ref sig .tc := ⟨.hbm, 214, rfl⟩
abbrev main_call5_v2 : Ref sig .tc := ⟨.hbm, 215, rfl⟩
abbrev main_call5_v3 : Ref sig .tc := ⟨.hbm, 216, rfl⟩
abbrev main_call5_cst_0 : Ref sig .tc := ⟨.hbm, 217, rfl⟩
abbrev main_call5_v4 : Ref sig .tc := ⟨.hbm, 218, rfl⟩
abbrev main_call5_v5 : Ref sig .tc := ⟨.hbm, 219, rfl⟩
abbrev main_v122 : Ref sig .tc := ⟨.hbm, 220, rfl⟩
abbrev main_cst_19 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_v126 : Ref sig .tc := ⟨.hbm, 225, rfl⟩
abbrev main_v127 : Ref sig .tc := ⟨.hbm, 226, rfl⟩
abbrev main_v128 : Ref sig .tc := ⟨.hbm, 227, rfl⟩
abbrev main_v129 : Ref sig .tc := ⟨.hbm, 228, rfl⟩
abbrev main_v130 : Ref sig .tc := ⟨.hbm, 229, rfl⟩
abbrev main_v131 : Ref sig .tc := ⟨.hbm, 230, rfl⟩
abbrev main_v132 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩
abbrev main_v136 : Ref sig .tc := ⟨.hbm, 235, rfl⟩
abbrev main_v137 : Ref sig .tc := ⟨.hbm, 236, rfl⟩
abbrev main_v138 : Ref sig .tc := ⟨.hbm, 237, rfl⟩
abbrev main_v139 : Ref sig .tc := ⟨.hbm, 238, rfl⟩

abbrev nD : Nat := 1
abbrev τ : Topo := Topo.v7x

variable {F : FTy → Type} [FloatOps F]
-- ==== Proof.KernelIdeal.Region0.lean ====
/- The first pallas_call of the kernel (the node body, fifty blocks of two thousand nodes), at any entry contents of the
   arrays: its blocks, what its body leaves in each output buffer, and the obligation the pipeline asks of it. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Launched

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0__node_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V c (Pipeline.arrRef spec0 18))
    (hafter : ∀ t, dat.after 18 t = iblk0 V c 18 t) (t : Fin cfg0.N) (d) : dat.before 18 t d = iblk0 V c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V c (Pipeline.arrRef spec0 19))
    (hafter : ∀ t, dat.after 19 t = iblk0 V c 19 t) (t : Fin cfg0.N) (d) : dat.before 19 t d = iblk0 V c 19 t :=
  (dat.before_in_eq_fetched 19 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2000x128 := Rect.unit (s := S2000x128) ![0, 0] S2000x128.size inb_S2000x128_S2000x128_0_0
abbrev r0_1 : Rect S1x1x2000 := Rect.unit (s := S1x1x2000) ![0, 0, 0] S1x1x2000.size inb_S1x1x2000_S1x1x2000_0_0_0
abbrev r0_2 : Rect S128x128 := Rect.unit (s := S128x128) ![0, 0] S128x128.size inb_S128x128_S128x128_0_0
abbrev r0_3 : Rect S1x128 := Rect.unit (s := S1x128) ![0, 0] S1x128.size inb_S1x128_S1x128_0_0
abbrev r0_4 : Rect S128x384 := Rect.unit (s := S128x384) ![0, 0] S128x384.size inb_S128x384_S128x384_0_0
abbrev r0_5 : Rect S1x384 := Rect.unit (s := S1x384) ![0, 0] S1x384.size inb_S1x384_S1x384_0_0
abbrev r0_6 : Rect S2000x16 := Rect.unit (s := S2000x16) ![0, 0] S2000x16.size inb_S2000x16_S2000x16_0_0
abbrev r0_7 : Rect S16x384 := Rect.unit (s := S16x384) ![0, 0] S16x384.size inb_S16x384_S16x384_0_0
abbrev r0_8 : Rect S64x128 := Rect.unit (s := S64x128) ![0, 0] S64x128.size inb_S64x128_S64x128_0_0
abbrev r0_9 : Rect S1x64x128 := Rect.unit (s := S1x64x128) ![0, 0, 0] S1x64x128.size inb_S1x64x128_S1x64x128_0_0_0
abbrev r0_10 : Rect S1x64x8 := Rect.unit (s := S1x64x8) ![0, 0, 0] S1x64x8.size inb_S1x64x8_S1x64x8_0_0_0
abbrev r0_11 : Rect S3x2000x128 := Rect.unit (s := S3x2000x128) ![0, 0, 0] S1x2000x128.size inb_S3x2000x128_S1x2000x128_0_0_0
abbrev r0_12 : Rect S2000x3 := Rect.unit (s := S2000x3) ![0, 0] S2000x1.size inb_S2000x3_S2000x1_0_0
abbrev r0_13 : Rect S3x64x128 := Rect.unit (s := S3x64x128) ![0, 0, 0] S1x64x128.size inb_S3x64x128_S1x64x128_0_0_0
abbrev r0_14 : Rect S1x64x384 := Rect.unit (s := S1x64x384) ![0, 0, 0] S1x64x128.size inb_S1x64x384_S1x64x128_0_0_0
abbrev r0_15 : Rect S3x2000x128 := Rect.unit (s := S3x2000x128) ![1, 0, 0] S1x2000x128.size inb_S3x2000x128_S1x2000x128_1_0_0
abbrev r0_16 : Rect S2000x3 := Rect.unit (s := S2000x3) ![0, 1] S2000x1.size inb_S2000x3_S2000x1_0_1
abbrev r0_17 : Rect S3x64x128 := Rect.unit (s := S3x64x128) ![1, 0, 0] S1x64x128.size inb_S3x64x128_S1x64x128_1_0_0
abbrev r0_18 : Rect S1x64x384 := Rect.unit (s := S1x64x384) ![0, 0, 128] S1x64x128.size inb_S1x64x384_S1x64x128_0_0_128
abbrev r0_19 : Rect S3x2000x128 := Rect.unit (s := S3x2000x128) ![2, 0, 0] S1x2000x128.size inb_S3x2000x128_S1x2000x128_2_0_0
abbrev r0_20 : Rect S2000x3 := Rect.unit (s := S2000x3) ![0, 2] S2000x1.size inb_S2000x3_S2000x1_0_2
abbrev r0_21 : Rect S3x64x128 := Rect.unit (s := S3x64x128) ![2, 0, 0] S1x64x128.size inb_S3x64x128_S1x64x128_2_0_0
abbrev r0_22 : Rect S1x64x384 := Rect.unit (s := S1x64x384) ![0, 0, 256] S1x64x128.size inb_S1x64x384_S1x64x128_0_0_256

/-! ## What the body leaves in each output window's buffer -/

/-! ### Values of the body that the stores' payloads, spelt out, would write more than once

    Each is a vector the body binds (often a part call's result), stated over the input windows' blocks and
    numbered on from the skeleton's payload functions (`k0_pay21` …, after `k0_pay20`), so that
    `out0_W` and the values after it name it instead of spelling it out (`unfold_out out0_W` opens a canon
    with them, `unfold_payloads` opens them with the payloads); the comment after each is the printed function's
    name for the value (a count appended where that name is bound again). -/

def k0_pay21 (x0 : Vec F S2000x128 .f32) (x1 : Vec F S3x2000x128 .f32) (x2 : Vec F S2000x16 .f32) (x3 : Vec F S2000x3 .f32) (x4 : Vec F S1x1x2000 .i32) (x5 : Vec F S64x128 .f32) (x6 : Vec F S3x64x128 .f32) (x7 : Vec F S128x128 .f32) (x8 : Vec F S1x128 .f32) (x9 : Vec F S128x384 .f32) (x10 : Vec F S1x384 .f32) (x11 : Vec F S16x384 .f32) (x12 : Vec F S1x384 .f32) (x13 : Vec F S128x128 .f32) (x14 : Vec F S128x128 .f32) (x15 : Vec F S1x128 .f32) (x16 : Vec F S128x128 .f32) (x17 : Vec F S1x128 .f32) (x18 : Vec F S128x128 .f32) (x19 : Vec F S128x128 .f32) : FVec F S64x2000 .f32 :=
  k0_pay3 (View.ld x4 r0_1) -- `v8`
def k0_pay22 (x0 : Vec F S2000x128 .f32) (x1 : Vec F S3x2000x128 .f32) (x2 : Vec F S2000x16 .f32) (x3 : Vec F S2000x3 .f32) (x4 : Vec F S1x1x2000 .i32) (x5 : Vec F S64x128 .f32) (x6 : Vec F S3x64x128 .f32) (x7 : Vec F S128x128 .f32) (x8 : Vec F S1x128 .f32) (x9 : Vec F S128x384 .f32) (x10 : Vec F S1x384 .f32) (x11 : Vec F S16x384 .f32) (x12 : Vec F S1x384 .f32) (x13 : Vec F S128x128 .f32) (x14 : Vec F S128x128 .f32) (x15 : Vec F S1x128 .f32) (x16 : Vec F S128x128 .f32) (x17 : Vec F S1x128 .f32) (x18 : Vec F S128x128 .f32) (x19 : Vec F S128x128 .f32) : FVec F S2000x128 .f32 :=
  k0_pay5 (View.ld x0 r0_0) (View.ld x7 r0_2) (View.ld x8 r0_3) (View.ld x9 r0_4) (View.ld x10 r0_5) (View.ld x2 r0_6) (View.ld x11 r0_7) (View.ld x12 r0_5) -- `v33`
def k0_pay23 (x0 : Vec F S2000x128 .f32) (x1 : Vec F S3x2000x128 .f32) (x2 : Vec F S2000x16 .f32) (x3 : Vec F S2000x3 .f32) (x4 : Vec F S1x1x2000 .i32) (x5 : Vec F S64x128 .f32) (x6 : Vec F S3x64x128 .f32) (x7 : Vec F S128x128 .f32) (x8 : Vec F S1x128 .f32) (x9 : Vec F S128x384 .f32) (x10 : Vec F S1x384 .f32) (x11 : Vec F S16x384 .f32) (x12 : Vec F S1x384 .f32) (x13 : Vec F S128x128 .f32) (x14 : Vec F S128x128 .f32) (x15 : Vec F S1x128 .f32) (x16 : Vec F S128x128 .f32) (x17 : Vec F S1x128 .f32) (x18 : Vec F S128x128 .f32) (x19 : Vec F S128x128 .f32) : FVec F S2000x128 .f32 :=
  k0_pay6 (View.ld x0 r0_0) (View.ld x7 r0_2) (View.ld x8 r0_3) (View.ld x9 r0_4) (View.ld x10 r0_5) (View.ld x2 r0_6) (View.ld x11 r0_7) (View.ld x12 r0_5) -- `v34`
def k0_pay24 (x0 : Vec F S2000x128 .f32) (x1 : Vec F S3x2000x128 .f32) (x2 : Vec F S2000x16 .f32) (x3 : Vec F S2000x3 .f32) (x4 : Vec F S1x1x2000 .i32) (x5 : Vec F S64x128 .f32) (x6 : Vec F S3x64x128 .f32) (x7 : Vec F S128x128 .f32) (x8 : Vec F S1x128 .f32) (x9 : Vec F S128x384 .f32) (x10 : Vec F S1x384 .f32) (x11 : Vec F S16x384 .f32) (x12 : Vec F S1x384 .f32) (x13 : Vec F S128x128 .f32) (x14 : Vec F S128x128 .f32) (x15 : Vec F S1x128 .f32) (x16 : Vec F S128x128 .f32) (x17 : Vec F S1x128 .f32) (x18 : Vec F S128x128 .f32) (x19 : Vec F S128x128 .f32) : FVec F S2000x128 .f32 :=
  k0_pay7 (View.ld x0 r0_0) (View.ld x7 r0_2) (View.ld x8 r0_3) (View.ld x9 r0_4) (View.ld x10 r0_5) (View.ld x2 r0_6) (View.ld x11 r0_7) (View.ld x12 r0_5) -- `v36`
def k0_pay25 (x0 : Vec F S2000x128 .f32) (x1 : Vec F S3x2000x128 .f32) (x2 : Vec F S2000x16 .f32) (x3 : Vec F S2000x3 .f32) (x4 : Vec F S1x1x2000 .i32) (x5 : Vec F S64x128 .f32) (x6 : Vec F S3x64x128 .f32) (x7 : Vec F S128x128 .f32) (x8 : Vec F S1x128 .f32) (x9 : Vec F S128x384 .f32) (x10 : Vec F S1x384 .f32) (x11 : Vec F S16x384 .f32) (x12 : Vec F S1x384 .f32) (x13 : Vec F S128x128 .f32) (x14 : Vec F S128x128 .f32) (x15 : Vec F S1x128 .f32) (x16 : Vec F S128x128 .f32) (x17 : Vec F S1x128 .f32) (x18 : Vec F S128x128 .f32) (x19 : Vec F S128x128 .f32) : FVec F S128x128 .f32 :=
  k0_pay12 (View.ld x19 r0_2) -- `v75`
def k0_pay26 (x0 : Vec F S2000x128 .f32) (x1 : Vec F S3x2000x128 .f32) (x2 : Vec F S2000x16 .f32) (x3 : Vec F S2000x3 .f32) (x4 : Vec F S1x1x2000 .i32) (x5 : Vec F S64x128 .f32) (x6 : Vec F S3x64x128 .f32) (x7 : Vec F S128x128 .f32) (x8 : Vec F S1x128 .f32) (x9 : Vec F S128x384 .f32) (x10 : Vec F S1x384 .f32) (x11 : Vec F S16x384 .f32) (x12 : Vec F S1x384 .f32) (x13 : Vec F S128x128 .f32) (x14 : Vec F S128x128 .f32) (x15 : Vec F S1x128 .f32) (x16 : Vec F S128x128 .f32) (x17 : Vec F S1x128 .f32) (x18 : Vec F S128x128 .f32) (x19 : Vec F S128x128 .f32) : FVec F S2000x128 .f32 :=
  k0_pay16 (View.ld x1 r0_15) -- `v98`
def k0_pay27 (x0 : Vec F S2000x128 .f32) (x1 : Vec F S3x2000x128 .f32) (x2 : Vec F S2000x16 .f32) (x3 : Vec F S2000x3 .f32) (x4 : Vec F S1x1x2000 .i32) (x5 : Vec F S64x128 .f32) (x6 : Vec F S3x64x128 .f32) (x7 : Vec F S128x128 .f32) (x8 : Vec F S1x128 .f32) (x9 : Vec F S128x384 .f32) (x10 : Vec F S1x384 .f32) (x11 : Vec F S16x384 .f32) (x12 : Vec F S1x384 .f32) (x13 : Vec F S128x128 .f32) (x14 : Vec F S128x128 .f32) (x15 : Vec F S1x128 .f32) (x16 : Vec F S128x128 .f32) (x17 : Vec F S1x128 .f32) (x18 : Vec F S128x128 .f32) (x19 : Vec F S128x128 .f32) : FVec F S2000x128 .f32 :=
  k0_pay20 (k0_pay21 x0 x1 x2 x3 x4 x5 x6 x7 x8 x9 x10 x11 x12 x13 x14 x15 x16 x17 x18 x19) (k0_pay22 x0 x1 x2 x3 x4 x5 x6 x7 x8 x9 x10 x11 x12 x13 x14 x15 x16 x17 x18 x19) (k0_pay23 x0 x1 x2 x3 x4 x5 x6 x7 x8 x9 x10 x11 x12 x13 x14 x15 x16 x17 x18 x19) (k0_pay25 x0 x1 x2 x3 x4 x5 x6 x7 x8 x9 x10 x11 x12 x13 x14 x15 x16 x17 x18 x19) (View.ld x18 r0_2) (View.ld x1 r0_19) (View.ld x3 r0_20) (View.ld x6 r0_21) -- `v129`

/-- Window 20's staging buffer after the body, from the input windows' blocks: its 1 store as pieces, LAST
    FIRST (Lib/Pipeline/FrameBody.lean `View.canon`; the payloads are the skeleton's and the values stated above). -/
def out0_20 (x0 : Vec F S2000x128 .f32) (x1 : Vec F S3x2000x128 .f32) (x2 : Vec F S2000x16 .f32) (x3 : Vec F S2000x3 .f32) (x4 : Vec F S1x1x2000 .i32) (x5 : Vec F S64x128 .f32) (x6 : Vec F S3x64x128 .f32) (x7 : Vec F S128x128 .f32) (x8 : Vec F S1x128 .f32) (x9 : Vec F S128x384 .f32) (x10 : Vec F S1x384 .f32) (x11 : Vec F S16x384 .f32) (x12 : Vec F S1x384 .f32) (x13 : Vec F S128x128 .f32) (x14 : Vec F S128x128 .f32) (x15 : Vec F S1x128 .f32) (x16 : Vec F S128x128 .f32) (x17 : Vec F S1x128 .f32) (x18 : Vec F S128x128 .f32) (x19 : Vec F S128x128 .f32) : Vec F S2000x128 .f32 :=
  View.canon [⟨r0_0, k0_pay8 (k0_pay21 x0 x1 x2 x3 x4 x5 x6 x7 x8 x9 x10 x11 x12 x13 x14 x15 x16 x17 x18 x19) (k0_pay24 x0 x1 x2 x3 x4 x5 x6 x7 x8 x9 x10 x11 x12 x13 x14 x15 x16 x17 x18 x19) (View.ld x5 r0_8) (View.ld x14 r0_2) (View.ld x13 r0_2) (View.ld x15 r0_3) (View.ld x16 r0_2) (View.ld x17 r0_3)⟩]

/-- Its stores tile the buffer (checked by evaluation), so they cover it. -/
theorem cover0_20 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

/-- Window 21's staging buffer after the body, from the input windows' blocks: its 3 stores as pieces, LAST
    FIRST (Lib/Pipeline/FrameBody.lean `View.canon`; the payloads are the skeleton's and the values stated above). -/
def out0_21 (x0 : Vec F S2000x128 .f32) (x1 : Vec F S3x2000x128 .f32) (x2 : Vec F S2000x16 .f32) (x3 : Vec F S2000x3 .f32) (x4 : Vec F S1x1x2000 .i32) (x5 : Vec F S64x128 .f32) (x6 : Vec F S3x64x128 .f32) (x7 : Vec F S128x128 .f32) (x8 : Vec F S1x128 .f32) (x9 : Vec F S128x384 .f32) (x10 : Vec F S1x384 .f32) (x11 : Vec F S16x384 .f32) (x12 : Vec F S1x384 .f32) (x13 : Vec F S128x128 .f32) (x14 : Vec F S128x128 .f32) (x15 : Vec F S1x128 .f32) (x16 : Vec F S128x128 .f32) (x17 : Vec F S1x128 .f32) (x18 : Vec F S128x128 .f32) (x19 : Vec F S128x128 .f32) : Vec F S3x2000x128 .f32 :=
  View.canon [⟨r0_19, k0_pay1 (k0_pay27 x0 x1 x2 x3 x4 x5 x6 x7 x8 x9 x10 x11 x12 x13 x14 x15 x16 x17 x18 x19)⟩,
    ⟨r0_15, k0_pay18 (k0_pay21 x0 x1 x2 x3 x4 x5 x6 x7 x8 x9 x10 x11 x12 x13 x14 x15 x16 x17 x18 x19) (k0_pay22 x0 x1 x2 x3 x4 x5 x6 x7 x8 x9 x10 x11 x12 x13 x14 x15 x16 x17 x18 x19) (k0_pay23 x0 x1 x2 x3 x4 x5 x6 x7 x8 x9 x10 x11 x12 x13 x14 x15 x16 x17 x18 x19) (k0_pay25 x0 x1 x2 x3 x4 x5 x6 x7 x8 x9 x10 x11 x12 x13 x14 x15 x16 x17 x18 x19) (View.ld x18 r0_2) (k0_pay26 x0 x1 x2 x3 x4 x5 x6 x7 x8 x9 x10 x11 x12 x13 x14 x15 x16 x17 x18 x19) (View.ld x3 r0_16) (View.ld x6 r0_17)⟩,
    ⟨r0_11, k0_pay14 (k0_pay21 x0 x1 x2 x3 x4 x5 x6 x7 x8 x9 x10 x11 x12 x13 x14 x15 x16 x17 x18 x19) (k0_pay22 x0 x1 x2 x3 x4 x5 x6 x7 x8 x9 x10 x11 x12 x13 x14 x15 x16 x17 x18 x19) (k0_pay23 x0 x1 x2 x3 x4 x5 x6 x7 x8 x9 x10 x11 x12 x13 x14 x15 x16 x17 x18 x19) (View.ld x19 r0_2) (View.ld x18 r0_2) (View.ld x1 r0_11) (View.ld x3 r0_12) (View.ld x6 r0_13)⟩]

/-- Its stores tile the buffer (checked by evaluation), so they cover it. -/
theorem cover0_21 (p0 : Vec F S1x2000x128 .f32) (p1 : Vec F S1x2000x128 .f32) (p2 : Vec F S1x2000x128 .f32) (y : S3x2000x128.Idx) :
    ∃ pc ∈ ([⟨r0_19, p0⟩, ⟨r0_15, p1⟩, ⟨r0_11, p2⟩] : List (View.Piece (Elt F) S3x2000x128 .f32)), y ∈ pc.1.set :=
  View.cover_of_tiled [⟨r0_19, p0⟩, ⟨r0_15, p1⟩, ⟨r0_11, p2⟩] S1x2000x128.size (by rfl) y

/-- Window 22's staging buffer after the body, from the input windows' blocks: its 1 store as pieces, LAST
    FIRST (Lib/Pipeline/FrameBody.lean `View.canon`; the payloads are the skeleton's and the values stated above). -/
def out0_22 (x0 : Vec F S2000x128 .f32) (x1 : Vec F S3x2000x128 .f32) (x2 : Vec F S2000x16 .f32) (x3 : Vec F S2000x3 .f32) (x4 : Vec F S1x1x2000 .i32) (x5 : Vec F S64x128 .f32) (x6 : Vec F S3x64x128 .f32) (x7 : Vec F S128x128 .f32) (x8 : Vec F S1x128 .f32) (x9 : Vec F S128x384 .f32) (x10 : Vec F S1x384 .f32) (x11 : Vec F S16x384 .f32) (x12 : Vec F S1x384 .f32) (x13 : Vec F S128x128 .f32) (x14 : Vec F S128x128 .f32) (x15 : Vec F S1x128 .f32) (x16 : Vec F S128x128 .f32) (x17 : Vec F S1x128 .f32) (x18 : Vec F S128x128 .f32) (x19 : Vec F S128x128 .f32) : Vec F S1x64x128 .f32 :=
  View.canon [⟨r0_9, k0_pay9 (k0_pay21 x0 x1 x2 x3 x4 x5 x6 x7 x8 x9 x10 x11 x12 x13 x14 x15 x16 x17 x18 x19) (k0_pay24 x0 x1 x2 x3 x4 x5 x6 x7 x8 x9 x10 x11 x12 x13 x14 x15 x16 x17 x18 x19) (View.ld x5 r0_8) (View.ld x14 r0_2) (View.ld x13 r0_2) (View.ld x15 r0_3) (View.ld x16 r0_2) (View.ld x17 r0_3)⟩]

/-- Its stores tile the buffer (checked by evaluation), so they cover it. -/
theorem cover0_22 (p0 : Vec F S1x64x128 .f32) (y : S1x64x128.Idx) :
    ∃ pc ∈ ([⟨r0_9, p0⟩] : List (View.Piece (Elt F) S1x64x128 .f32)), y ∈ pc.1.set :=
  View.cover_of_tiled [⟨r0_9, p0⟩] S1x64x128.size (by rfl) y

/-- Window 23's staging buffer after the body, from the input windows' blocks: its 3 stores as pieces, LAST
    FIRST (Lib/Pipeline/FrameBody.lean `View.canon`; the payloads are the skeleton's and the values stated above). -/
def out0_23 (x0 : Vec F S2000x128 .f32) (x1 : Vec F S3x2000x128 .f32) (x2 : Vec F S2000x16 .f32) (x3 : Vec F S2000x3 .f32) (x4 : Vec F S1x1x2000 .i32) (x5 : Vec F S64x128 .f32) (x6 : Vec F S3x64x128 .f32) (x7 : Vec F S128x128 .f32) (x8 : Vec F S1x128 .f32) (x9 : Vec F S128x384 .f32) (x10 : Vec F S1x384 .f32) (x11 : Vec F S16x384 .f32) (x12 : Vec F S1x384 .f32) (x13 : Vec F S128x128 .f32) (x14 : Vec F S128x128 .f32) (x15 : Vec F S1x128 .f32) (x16 : Vec F S128x128 .f32) (x17 : Vec F S1x128 .f32) (x18 : Vec F S128x128 .f32) (x19 : Vec F S128x128 .f32) : Vec F S1x64x384 .f32 :=
  View.canon [⟨r0_22, k0_pay2 (k0_pay21 x0 x1 x2 x3 x4 x5 x6 x7 x8 x9 x10 x11 x12 x13 x14 x15 x16 x17 x18 x19) (k0_pay27 x0 x1 x2 x3 x4 x5 x6 x7 x8 x9 x10 x11 x12 x13 x14 x15 x16 x17 x18 x19)⟩,
    ⟨r0_18, k0_pay19 (k0_pay21 x0 x1 x2 x3 x4 x5 x6 x7 x8 x9 x10 x11 x12 x13 x14 x15 x16 x17 x18 x19) (k0_pay22 x0 x1 x2 x3 x4 x5 x6 x7 x8 x9 x10 x11 x12 x13 x14 x15 x16 x17 x18 x19) (k0_pay23 x0 x1 x2 x3 x4 x5 x6 x7 x8 x9 x10 x11 x12 x13 x14 x15 x16 x17 x18 x19) (k0_pay25 x0 x1 x2 x3 x4 x5 x6 x7 x8 x9 x10 x11 x12 x13 x14 x15 x16 x17 x18 x19) (View.ld x18 r0_2) (k0_pay26 x0 x1 x2 x3 x4 x5 x6 x7 x8 x9 x10 x11 x12 x13 x14 x15 x16 x17 x18 x19) (View.ld x3 r0_16) (View.ld x6 r0_17)⟩,
    ⟨r0_14, k0_pay15 (k0_pay21 x0 x1 x2 x3 x4 x5 x6 x7 x8 x9 x10 x11 x12 x13 x14 x15 x16 x17 x18 x19) (k0_pay22 x0 x1 x2 x3 x4 x5 x6 x7 x8 x9 x10 x11 x12 x13 x14 x15 x16 x17 x18 x19) (k0_pay23 x0 x1 x2 x3 x4 x5 x6 x7 x8 x9 x10 x11 x12 x13 x14 x15 x16 x17 x18 x19) (View.ld x19 r0_2) (View.ld x18 r0_2) (View.ld x1 r0_11) (View.ld x3 r0_12) (View.ld x6 r0_13)⟩]

/-- Its stores tile the buffer (checked by evaluation), so they cover it. -/
theorem cover0_23 (p0 : Vec F S1x64x128 .f32) (p1 : Vec F S1x64x128 .f32) (p2 : Vec F S1x64x128 .f32) (y : S1x64x384.Idx) :
    ∃ pc ∈ ([⟨r0_22, p0⟩, ⟨r0_18, p1⟩, ⟨r0_14, p2⟩] : List (View.Piece (Elt F) S1x64x384 .f32)), y ∈ pc.1.set :=
  View.cover_of_tiled [⟨r0_22, p0⟩, ⟨r0_18, p1⟩, ⟨r0_14, p2⟩] S1x64x128.size (by rfl) y

/-- Window 24's staging buffer after the body, from the input windows' blocks: its 1 store as pieces, LAST
    FIRST (Lib/Pipeline/FrameBody.lean `View.canon`; the payloads are the skeleton's and the values stated above). -/
def out0_24 (x0 : Vec F S2000x128 .f32) (x1 : Vec F S3x2000x128 .f32) (x2 : Vec F S2000x16 .f32) (x3 : Vec F S2000x3 .f32) (x4 : Vec F S1x1x2000 .i32) (x5 : Vec F S64x128 .f32) (x6 : Vec F S3x64x128 .f32) (x7 : Vec F S128x128 .f32) (x8 : Vec F S1x128 .f32) (x9 : Vec F S128x384 .f32) (x10 : Vec F S1x384 .f32) (x11 : Vec F S16x384 .f32) (x12 : Vec F S1x384 .f32) (x13 : Vec F S128x128 .f32) (x14 : Vec F S128x128 .f32) (x15 : Vec F S1x128 .f32) (x16 : Vec F S128x128 .f32) (x17 : Vec F S1x128 .f32) (x18 : Vec F S128x128 .f32) (x19 : Vec F S128x128 .f32) : Vec F S1x64x8 .f32 :=
  View.canon [⟨r0_10, k0_pay11 (k0_pay21 x0 x1 x2 x3 x4 x5 x6 x7 x8 x9 x10 x11 x12 x13 x14 x15 x16 x17 x18 x19) (k0_pay10 (F := F)) (constant S64x8 .f32 0x00000000#32)⟩]

/-- Its stores tile the buffer (checked by evaluation), so they cover it. -/
theorem cover0_24 (p0 : Vec F S1x64x8 .f32) (y : S1x64x8.Idx) :
    ∃ pc ∈ ([⟨r0_10, p0⟩] : List (View.Piece (Elt F) S1x64x8 .f32)), y ∈ pc.1.set :=
  View.cover_of_tiled [⟨r0_10, p0⟩] S1x64x8.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S2000x128 .f32) (harg1 : arg1.IsWhole) (arg2 : Memref sig .tc .vmem S3x2000x128 .f32) (harg2 : arg2.IsWhole) (arg3 : Memref sig .tc .vmem S2000x16 .f32) (harg3 : arg3.IsWhole) (arg4 : Memref sig .tc .vmem S2000x3 .f32) (harg4 : arg4.IsWhole) (arg5 : Memref sig .tc .vmem S1x1x2000 .i32) (harg5 : arg5.IsWhole) (arg6 : Memref sig .tc .vmem S64x128 .f32) (harg6 : arg6.IsWhole) (arg7 : Memref sig .tc .vmem S3x64x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x384 .f32) (harg10 : arg10.IsWhole) (arg11 : Memref sig .tc .vmem S1x384 .f32) (harg11 : arg11.IsWhole) (arg12 : Memref sig .tc .vmem S16x384 .f32) (harg12 : arg12.IsWhole) (arg13 : Memref sig .tc .vmem S1x384 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S2000x128 .f32) (harg21 : arg21.IsWhole) (arg22 : Memref sig .tc .vmem S3x2000x128 .f32) (harg22 : arg22.IsWhole) (arg23 : Memref sig .tc .vmem S1x64x128 .f32) (harg23 : arg23.IsWhole) (arg24 : Memref sig .tc .vmem S1x64x384 .f32) (harg24 : arg24.IsWhole) (arg25 : Memref sig .tc .vmem S1x64x8 .f32) (harg25 : arg25.IsWhole)
    (x0 : Vec F S2000x128 .f32) (x1 : Vec F S3x2000x128 .f32) (x2 : Vec F S2000x16 .f32) (x3 : Vec F S2000x3 .f32) (x4 : Vec F S1x1x2000 .i32) (x5 : Vec F S64x128 .f32) (x6 : Vec F S3x64x128 .f32) (x7 : Vec F S128x128 .f32) (x8 : Vec F S1x128 .f32) (x9 : Vec F S128x384 .f32) (x10 : Vec F S1x384 .f32) (x11 : Vec F S16x384 .f32) (x12 : Vec F S1x384 .f32) (x13 : Vec F S128x128 .f32) (x14 : Vec F S128x128 .f32) (x15 : Vec F S1x128 .f32) (x16 : Vec F S128x128 .f32) (x17 : Vec F S1x128 .f32) (x18 : Vec F S128x128 .f32) (x19 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare (out0_20 x0 x1 x2 x3 x4 x5 x6 x7 x8 x9 x10 x11 x12 x13 x14 x15 x16 x17 x18 x19) ∗ owns (c : Thread nD τ) arg22 fullShare (out0_21 x0 x1 x2 x3 x4 x5 x6 x7 x8 x9 x10 x11 x12 x13 x14 x15 x16 x17 x18 x19) ∗ owns (c : Thread nD τ) arg23 fullShare (out0_22 x0 x1 x2 x3 x4 x5 x6 x7 x8 x9 x10 x11 x12 x13 x14 x15 x16 x17 x18 x19) ∗ owns (c : Thread nD τ) arg24 fullShare (out0_23 x0 x1 x2 x3 x4 x5 x6 x7 x8 x9 x10 x11 x12 x13 x14 x15 x16 x17 x18 x19) ∗ owns (c : Thread nD τ) arg25 fullShare (out0_24 x0 x1 x2 x3 x4 x5 x6 x7 x8 x9 x10 x11 x12 x13 x14 x15 x16 x17 x18 x19)) -∗ K ⟨⟩))
      ⊢ wp frame (wpE (defs₀ (F := F)) Variants.none c none) E (cc0__node_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__node_body_eq_skeleton]; unfold cc0__node_body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _ _ _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _ _ _)).trans ?_
    rfl
  iexists _; isplitr
  swap; · iexact H24
  ipureintro
  refine (View.read_writes_eq_canon _ _ _ (cover0_24 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => iblk0 V c 19 t
    | ⟨20, _⟩ => out0_20 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t)
    | ⟨21, _⟩ => out0_21 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t)
    | ⟨22, _⟩ => out0_22 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t)
    | ⟨23, _⟩ => out0_23 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t)
    | ⟨24, _⟩ => out0_24 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t)
    | ⟨_ + 25, h⟩ => absurd h (Nat.not_lt.2 (Nat.le_add_left _ _))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = iblk0 V c 18 t := by dsimp only [dat0]
theorem after0_19 (c : Dev nD) (t : Fin cfg0.N) : (dat0 V c).after 19 t = iblk0 V c 19 t := by dsimp only [dat0]
theorem after0_20 (c : Dev nD) (t : Fin cfg0.N) : (dat0 V c).after 20 t = out0_20 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) := by dsimp only [dat0]
theorem after0_21 (c : Dev nD) (t : Fin cfg0.N) : (dat0 V c).after 21 t = out0_21 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) := by dsimp only [dat0]
theorem after0_22 (c : Dev nD) (t : Fin cfg0.N) : (dat0 V c).after 22 t = out0_22 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) := by dsimp only [dat0]
theorem after0_23 (c : Dev nD) (t : Fin cfg0.N) : (dat0 V c).after 23 t = out0_23 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) := by dsimp only [dat0]
theorem after0_24 (c : Dev nD) (t : Fin cfg0.N) : (dat0 V c).after 24 t = out0_24 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d
theorem before0_18 (c : Dev nD) (t : Fin cfg0.N) (d) : (dat0 V c).before 18 t d = iblk0 V c 18 t :=
  before0_18_of V (dat0 V c) (A_eq0 V c 18) (after0_18 V c) t d
theorem before0_19 (c : Dev nD) (t : Fin cfg0.N) (d) : (dat0 V c).before 19 t d = iblk0 V c 19 t :=
  before0_19_of V (dat0 V c) (A_eq0 V c 19) (after0_19 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d))
    ∗ (∃ d, owns (c : Thread nD τ) (st0_24 t) fullShare ((dat0 V c).before 24 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t)
    ∗ owns (c : Thread nD τ) (st0_24 t) fullShare ((dat0 V c).after 24 t))

set_option maxHeartbeats 4000000 in
/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17, before0_18, before0_19]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel0 c Set.univ (grid0.coords t) _ _ _ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Launched

end
-- ==== Proof.KernelIdeal.Region1.lean ====
/- The second pallas_call of the kernel (the graph body, one point), at any entry contents of the arrays: its blocks,
   what its body leaves in each output buffer, and the obligation the pipeline asks of it. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Launched

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1__graph_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S50x64x128 := Rect.unit (s := S50x64x128) ![0, 0, 0] S50x64x128.size inb_S50x64x128_S50x64x128_0_0_0
abbrev r1_1 : Rect S50x64x384 := Rect.unit (s := S50x64x384) ![0, 0, 0] S50x64x384.size inb_S50x64x384_S50x64x384_0_0_0
abbrev r1_2 : Rect S50x64x8 := Rect.unit (s := S50x64x8) ![0, 0, 0] S50x64x8.size inb_S50x64x8_S50x64x8_0_0_0
abbrev r1_3 : Rect S64x128 := Rect.unit (s := S64x128) ![0, 0] S64x128.size inb_S64x128_S64x128_0_0
abbrev r1_4 : Rect S128x128 := Rect.unit (s := S128x128) ![0, 0] S128x128.size inb_S128x128_S128x128_0_0
abbrev r1_5 : Rect S1x128 := Rect.unit (s := S1x128) ![0, 0] S1x128.size inb_S1x128_S1x128_0_0
abbrev r1_6 : Rect S128x256 := Rect.unit (s := S128x256) ![0, 0] S128x256.size inb_S128x256_S128x256_0_0
abbrev r1_7 : Rect S3x64x128 := Rect.unit (s := S3x64x128) ![0, 0, 0] S1x64x128.size inb_S3x64x128_S1x64x128_0_0_0
abbrev r1_8 : Rect S3x64x128 := Rect.unit (s := S3x64x128) ![1, 0, 0] S1x64x128.size inb_S3x64x128_S1x64x128_1_0_0
abbrev r1_9 : Rect S3x64x128 := Rect.unit (s := S3x64x128) ![2, 0, 0] S1x64x128.size inb_S3x64x128_S1x64x128_2_0_0
abbrev r1_10 : Rect S128x384 := Rect.unit (s := S128x384) ![0, 0] S128x384.size inb_S128x384_S128x384_0_0
abbrev r1_11 : Rect S1x384 := Rect.unit (s := S1x384) ![0, 0] S1x384.size inb_S1x384_S1x384_0_0
abbrev r1_12 : Rect S128x1 := Rect.unit (s := S128x1) ![0, 0] S128x1.size inb_S128x1_S128x1_0_0
abbrev r1_13 : Rect S3x64x1 := Rect.unit (s := S3x64x1) ![0, 0, 0] S1x64x1.size inb_S3x64x1_S1x64x1_0_0_0
abbrev r1_14 : Rect S3x64x1 := Rect.unit (s := S3x64x1) ![1, 0, 0] S1x64x1.size inb_S3x64x1_S1x64x1_1_0_0
abbrev r1_15 : Rect S3x64x1 := Rect.unit (s := S3x64x1) ![2, 0, 0] S1x64x1.size inb_S3x64x1_S1x64x1_2_0_0

/-! ## What the body leaves in each output window's buffer -/

/-! ### Values of the body that the stores' payloads, spelt out, would write more than once

    Each is a vector the body binds (often a part call's result), stated over the input windows' blocks and
    numbered on from the skeleton's payload functions (`k1_pay29` …, after `k1_pay28`), so that
    `out1_W` and the values after it name it instead of spelling it out (`unfold_out out1_W` opens a canon
    with them, `unfold_payloads` opens them with the payloads); the comment after each is the printed function's
    name for the value (a count appended where that name is bound again). -/

def k1_pay29 (x0 : Vec F S50x64x128 .f32) (x1 : Vec F S50x64x384 .f32) (x2 : Vec F S50x64x8 .f32) (x3 : Vec F S64x128 .f32) (x4 : Vec F S3x64x128 .f32) (x5 : Vec F S128x128 .f32) (x6 : Vec F S128x128 .f32) (x7 : Vec F S1x128 .f32) (x8 : Vec F S128x128 .f32) (x9 : Vec F S1x128 .f32) (x10 : Vec F S128x128 .f32) (x11 : Vec F S128x256 .f32) (x12 : Vec F S128x128 .f32) (x13 : Vec F S128x128 .f32) (x14 : Vec F S1x128 .f32) (x15 : Vec F S128x384 .f32) (x16 : Vec F S1x384 .f32) (x17 : Vec F S128x1 .f32) : FVec F S64x384 .f32 :=
  k1_pay2 (View.ld x1 r1_1) -- `v5`
def k1_pay30 (x0 : Vec F S50x64x128 .f32) (x1 : Vec F S50x64x384 .f32) (x2 : Vec F S50x64x8 .f32) (x3 : Vec F S64x128 .f32) (x4 : Vec F S3x64x128 .f32) (x5 : Vec F S128x128 .f32) (x6 : Vec F S128x128 .f32) (x7 : Vec F S1x128 .f32) (x8 : Vec F S128x128 .f32) (x9 : Vec F S1x128 .f32) (x10 : Vec F S128x128 .f32) (x11 : Vec F S128x256 .f32) (x12 : Vec F S128x128 .f32) (x13 : Vec F S128x128 .f32) (x14 : Vec F S1x128 .f32) (x15 : Vec F S128x384 .f32) (x16 : Vec F S1x384 .f32) (x17 : Vec F S128x1 .f32) : FVec F S64x1 .f32 :=
  k1_pay3 (View.ld x2 r1_2) -- `v13`
def k1_pay31 (x0 : Vec F S50x64x128 .f32) (x1 : Vec F S50x64x384 .f32) (x2 : Vec F S50x64x8 .f32) (x3 : Vec F S64x128 .f32) (x4 : Vec F S3x64x128 .f32) (x5 : Vec F S128x128 .f32) (x6 : Vec F S128x128 .f32) (x7 : Vec F S1x128 .f32) (x8 : Vec F S128x128 .f32) (x9 : Vec F S1x128 .f32) (x10 : Vec F S128x128 .f32) (x11 : Vec F S128x256 .f32) (x12 : Vec F S128x128 .f32) (x13 : Vec F S128x128 .f32) (x14 : Vec F S1x128 .f32) (x15 : Vec F S128x384 .f32) (x16 : Vec F S1x384 .f32) (x17 : Vec F S128x1 .f32) : FVec F S64x128 .f32 :=
  k1_pay5 (View.ld x3 r1_3) (k1_pay4 (View.ld x0 r1_0) (View.ld x2 r1_2) (View.ld x3 r1_3) (View.ld x5 r1_4) (View.ld x6 r1_4) (View.ld x7 r1_5)) (View.ld x8 r1_4) (View.ld x9 r1_5) -- `v42`
def k1_pay32 (x0 : Vec F S50x64x128 .f32) (x1 : Vec F S50x64x384 .f32) (x2 : Vec F S50x64x8 .f32) (x3 : Vec F S64x128 .f32) (x4 : Vec F S3x64x128 .f32) (x5 : Vec F S128x128 .f32) (x6 : Vec F S128x128 .f32) (x7 : Vec F S1x128 .f32) (x8 : Vec F S128x128 .f32) (x9 : Vec F S1x128 .f32) (x10 : Vec F S128x128 .f32) (x11 : Vec F S128x256 .f32) (x12 : Vec F S128x128 .f32) (x13 : Vec F S128x128 .f32) (x14 : Vec F S1x128 .f32) (x15 : Vec F S128x384 .f32) (x16 : Vec F S1x384 .f32) (x17 : Vec F S128x1 .f32) : FVec F S64x128 .f32 :=
  k1_pay6 (k1_pay29 x0 x1 x2 x3 x4 x5 x6 x7 x8 x9 x10 x11 x12 x13 x14 x15 x16 x17) (k1_pay30 x0 x1 x2 x3 x4 x5 x6 x7 x8 x9 x10 x11 x12 x13 x14 x15 x16 x17) (View.ld x10 r1_4) (View.ld x4 r1_7) -- `v53`
def k1_pay33 (x0 : Vec F S50x64x128 .f32) (x1 : Vec F S50x64x384 .f32) (x2 : Vec F S50x64x8 .f32) (x3 : Vec F S64x128 .f32) (x4 : Vec F S3x64x128 .f32) (x5 : Vec F S128x128 .f32) (x6 : Vec F S128x128 .f32) (x7 : Vec F S1x128 .f32) (x8 : Vec F S128x128 .f32) (x9 : Vec F S1x128 .f32) (x10 : Vec F S128x128 .f32) (x11 : Vec F S128x256 .f32) (x12 : Vec F S128x128 .f32) (x13 : Vec F S128x128 .f32) (x14 : Vec F S1x128 .f32) (x15 : Vec F S128x384 .f32) (x16 : Vec F S1x384 .f32) (x17 : Vec F S128x1 .f32) : FVec F S64x128 .f32 :=
  k1_pay8 (k1_pay29 x0 x1 x2 x3 x4 x5 x6 x7 x8 x9 x10 x11 x12 x13 x14 x15 x16 x17) (k1_pay30 x0 x1 x2 x3 x4 x5 x6 x7 x8 x9 x10 x11 x12 x13 x14 x15 x16 x17) (View.ld x10 r1_4) (View.ld x11 r1_6) (View.ld x4 r1_7) -- `v55`
def k1_pay34 (x0 : Vec F S50x64x128 .f32) (x1 : Vec F S50x64x384 .f32) (x2 : Vec F S50x64x8 .f32) (x3 : Vec F S64x128 .f32) (x4 : Vec F S3x64x128 .f32) (x5 : Vec F S128x128 .f32) (x6 : Vec F S128x128 .f32) (x7 : Vec F S1x128 .f32) (x8 : Vec F S128x128 .f32) (x9 : Vec F S1x128 .f32) (x10 : Vec F S128x128 .f32) (x11 : Vec F S128x256 .f32) (x12 : Vec F S128x128 .f32) (x13 : Vec F S128x128 .f32) (x14 : Vec F S1x128 .f32) (x15 : Vec F S128x384 .f32) (x16 : Vec F S1x384 .f32) (x17 : Vec F S128x1 .f32) : FVec F S64x128 .f32 :=
  k1_pay9 (k1_pay29 x0 x1 x2 x3 x4 x5 x6 x7 x8 x9 x10 x11 x12 x13 x14 x15 x16 x17) (k1_pay30 x0 x1 x2 x3 x4 x5 x6 x7 x8 x9 x10 x11 x12 x13 x14 x15 x16 x17) (View.ld x10 r1_4) (View.ld x4 r1_8) -- `v67`
def k1_pay35 (x0 : Vec F S50x64x128 .f32) (x1 : Vec F S50x64x384 .f32) (x2 : Vec F S50x64x8 .f32) (x3 : Vec F S64x128 .f32) (x4 : Vec F S3x64x128 .f32) (x5 : Vec F S128x128 .f32) (x6 : Vec F S128x128 .f32) (x7 : Vec F S1x128 .f32) (x8 : Vec F S128x128 .f32) (x9 : Vec F S1x128 .f32) (x10 : Vec F S128x128 .f32) (x11 : Vec F S128x256 .f32) (x12 : Vec F S128x128 .f32) (x13 : Vec F S128x128 .f32) (x14 : Vec F S1x128 .f32) (x15 : Vec F S128x384 .f32) (x16 : Vec F S1x384 .f32) (x17 : Vec F S128x1 .f32) : FVec F S64x128 .f32 :=
  k1_pay11 (k1_pay29 x0 x1 x2 x3 x4 x5 x6 x7 x8 x9 x10 x11 x12 x13 x14 x15 x16 x17) (k1_pay30 x0 x1 x2 x3 x4 x5 x6 x7 x8 x9 x10 x11 x12 x13 x14 x15 x16 x17) (View.ld x10 r1_4) (View.ld x11 r1_6) (View.ld x4 r1_8) -- `v69`
def k1_pay36 (x0 : Vec F S50x64x128 .f32) (x1 : Vec F S50x64x384 .f32) (x2 : Vec F S50x64x8 .f32) (x3 : Vec F S64x128 .f32) (x4 : Vec F S3x64x128 .f32) (x5 : Vec F S128x128 .f32) (x6 : Vec F S128x128 .f32) (x7 : Vec F S1x128 .f32) (x8 : Vec F S128x128 .f32) (x9 : Vec F S1x128 .f32) (x10 : Vec F S128x128 .f32) (x11 : Vec F S128x256 .f32) (x12 : Vec F S128x128 .f32) (x13 : Vec F S128x128 .f32) (x14 : Vec F S1x128 .f32) (x15 : Vec F S128x384 .f32) (x16 : Vec F S1x384 .f32) (x17 : Vec F S128x1 .f32) : FVec F S64x128 .f32 :=
  k1_pay12 (k1_pay29 x0 x1 x2 x3 x4 x5 x6 x7 x8 x9 x10 x11 x12 x13 x14 x15 x16 x17) (k1_pay30 x0 x1 x2 x3 x4 x5 x6 x7 x8 x9 x10 x11 x12 x13 x14 x15 x16 x17) (View.ld x10 r1_4) (View.ld x11 r1_6) (View.ld x4 r1_7) (View.ld x4 r1_8) -- `v73`
def k1_pay37 (x0 : Vec F S50x64x128 .f32) (x1 : Vec F S50x64x384 .f32) (x2 : Vec F S50x64x8 .f32) (x3 : Vec F S64x128 .f32) (x4 : Vec F S3x64x128 .f32) (x5 : Vec F S128x128 .f32) (x6 : Vec F S128x128 .f32) (x7 : Vec F S1x128 .f32) (x8 : Vec F S128x128 .f32) (x9 : Vec F S1x128 .f32) (x10 : Vec F S128x128 .f32) (x11 : Vec F S128x256 .f32) (x12 : Vec F S128x128 .f32) (x13 : Vec F S128x128 .f32) (x14 : Vec F S1x128 .f32) (x15 : Vec F S128x384 .f32) (x16 : Vec F S1x384 .f32) (x17 : Vec F S128x1 .f32) : FVec F S64x128 .f32 :=
  k1_pay13 (k1_pay29 x0 x1 x2 x3 x4 x5 x6 x7 x8 x9 x10 x11 x12 x13 x14 x15 x16 x17) (k1_pay30 x0 x1 x2 x3 x4 x5 x6 x7 x8 x9 x10 x11 x12 x13 x14 x15 x16 x17) (View.ld x10 r1_4) (View.ld x4 r1_9) -- `v81`
def k1_pay38 (x0 : Vec F S50x64x128 .f32) (x1 : Vec F S50x64x384 .f32) (x2 : Vec F S50x64x8 .f32) (x3 : Vec F S64x128 .f32) (x4 : Vec F S3x64x128 .f32) (x5 : Vec F S128x128 .f32) (x6 : Vec F S128x128 .f32) (x7 : Vec F S1x128 .f32) (x8 : Vec F S128x128 .f32) (x9 : Vec F S1x128 .f32) (x10 : Vec F S128x128 .f32) (x11 : Vec F S128x256 .f32) (x12 : Vec F S128x128 .f32) (x13 : Vec F S128x128 .f32) (x14 : Vec F S1x128 .f32) (x15 : Vec F S128x384 .f32) (x16 : Vec F S1x384 .f32) (x17 : Vec F S128x1 .f32) : FVec F S64x128 .f32 :=
  k1_pay15 (k1_pay29 x0 x1 x2 x3 x4 x5 x6 x7 x8 x9 x10 x11 x12 x13 x14 x15 x16 x17) (k1_pay30 x0 x1 x2 x3 x4 x5 x6 x7 x8 x9 x10 x11 x12 x13 x14 x15 x16 x17) (View.ld x10 r1_4) (View.ld x11 r1_6) (View.ld x4 r1_9) -- `v83`
def k1_pay39 (x0 : Vec F S50x64x128 .f32) (x1 : Vec F S50x64x384 .f32) (x2 : Vec F S50x64x8 .f32) (x3 : Vec F S64x128 .f32) (x4 : Vec F S3x64x128 .f32) (x5 : Vec F S128x128 .f32) (x6 : Vec F S128x128 .f32) (x7 : Vec F S1x128 .f32) (x8 : Vec F S128x128 .f32) (x9 : Vec F S1x128 .f32) (x10 : Vec F S128x128 .f32) (x11 : Vec F S128x256 .f32) (x12 : Vec F S128x128 .f32) (x13 : Vec F S128x128 .f32) (x14 : Vec F S1x128 .f32) (x15 : Vec F S128x384 .f32) (x16 : Vec F S1x384 .f32) (x17 : Vec F S128x1 .f32) : FVec F S64x128 .f32 :=
  k1_pay17 (k1_pay29 x0 x1 x2 x3 x4 x5 x6 x7 x8 x9 x10 x11 x12 x13 x14 x15 x16 x17) (k1_pay30 x0 x1 x2 x3 x4 x5 x6 x7 x8 x9 x10 x11 x12 x13 x14 x15 x16 x17) (k1_pay31 x0 x1 x2 x3 x4 x5 x6 x7 x8 x9 x10 x11 x12 x13 x14 x15 x16 x17) (View.ld x10 r1_4) (View.ld x11 r1_6) (k1_pay36 x0 x1 x2 x3 x4 x5 x6 x7 x8 x9 x10 x11 x12 x13 x14 x15 x16 x17) (View.ld x4 r1_9) (View.ld x12 r1_4) (View.ld x13 r1_4) (View.ld x14 r1_5) (View.ld x15 r1_10) (View.ld x16 r1_11) -- `v112`

/-- Window 18's staging buffer after the body, from the input windows' blocks: its 1 store as pieces, LAST
    FIRST (Lib/Pipeline/FrameBody.lean `View.canon`; the payloads are the skeleton's and the values stated above). -/
def out1_18 (x0 : Vec F S50x64x128 .f32) (x1 : Vec F S50x64x384 .f32) (x2 : Vec F S50x64x8 .f32) (x3 : Vec F S64x128 .f32) (x4 : Vec F S3x64x128 .f32) (x5 : Vec F S128x128 .f32) (x6 : Vec F S128x128 .f32) (x7 : Vec F S1x128 .f32) (x8 : Vec F S128x128 .f32) (x9 : Vec F S1x128 .f32) (x10 : Vec F S128x128 .f32) (x11 : Vec F S128x256 .f32) (x12 : Vec F S128x128 .f32) (x13 : Vec F S128x128 .f32) (x14 : Vec F S1x128 .f32) (x15 : Vec F S128x384 .f32) (x16 : Vec F S1x384 .f32) (x17 : Vec F S128x1 .f32) : Vec F S64x128 .f32 :=
  View.canon [⟨r1_3, k1_pay19 (k1_pay31 x0 x1 x2 x3 x4 x5 x6 x7 x8 x9 x10 x11 x12 x13 x14 x15 x16 x17) (k1_pay16 (k1_pay29 x0 x1 x2 x3 x4 x5 x6 x7 x8 x9 x10 x11 x12 x13 x14 x15 x16 x17) (k1_pay30 x0 x1 x2 x3 x4 x5 x6 x7 x8 x9 x10 x11 x12 x13 x14 x15 x16 x17) (k1_pay31 x0 x1 x2 x3 x4 x5 x6 x7 x8 x9 x10 x11 x12 x13 x14 x15 x16 x17) (View.ld x10 r1_4) (View.ld x11 r1_6) (k1_pay36 x0 x1 x2 x3 x4 x5 x6 x7 x8 x9 x10 x11 x12 x13 x14 x15 x16 x17) (View.ld x4 r1_9) (View.ld x12 r1_4) (View.ld x13 r1_4) (View.ld x14 r1_5) (View.ld x15 r1_10) (View.ld x16 r1_11)) (k1_pay18 (k1_pay29 x0 x1 x2 x3 x4 x5 x6 x7 x8 x9 x10 x11 x12 x13 x14 x15 x16 x17) (k1_pay30 x0 x1 x2 x3 x4 x5 x6 x7 x8 x9 x10 x11 x12 x13 x14 x15 x16 x17) (k1_pay31 x0 x1 x2 x3 x4 x5 x6 x7 x8 x9 x10 x11 x12 x13 x14 x15 x16 x17) (View.ld x10 r1_4) (View.ld x11 r1_6) (k1_pay36 x0 x1 x2 x3 x4 x5 x6 x7 x8 x9 x10 x11 x12 x13 x14 x15 x16 x17) (View.ld x4 r1_9) (View.ld x12 r1_4) (View.ld x13 r1_4) (View.ld x14 r1_5) (View.ld x15 r1_10) (View.ld x16 r1_11))⟩]

/-- Its stores tile the buffer (checked by evaluation), so they cover it. -/
theorem cover1_18 (p0 : Vec F S64x128 .f32) (y : S64x128.Idx) :
    ∃ pc ∈ ([⟨r1_3, p0⟩] : List (View.Piece (Elt F) S64x128 .f32)), y ∈ pc.1.set :=
  View.cover_of_tiled [⟨r1_3, p0⟩] S64x128.size (by rfl) y

/-- Window 19's staging buffer after the body, from the input windows' blocks: its 3 stores as pieces, LAST
    FIRST (Lib/Pipeline/FrameBody.lean `View.canon`; the payloads are the skeleton's and the values stated above). -/
def out1_19 (x0 : Vec F S50x64x128 .f32) (x1 : Vec F S50x64x384 .f32) (x2 : Vec F S50x64x8 .f32) (x3 : Vec F S64x128 .f32) (x4 : Vec F S3x64x128 .f32) (x5 : Vec F S128x128 .f32) (x6 : Vec F S128x128 .f32) (x7 : Vec F S1x128 .f32) (x8 : Vec F S128x128 .f32) (x9 : Vec F S1x128 .f32) (x10 : Vec F S128x128 .f32) (x11 : Vec F S128x256 .f32) (x12 : Vec F S128x128 .f32) (x13 : Vec F S128x128 .f32) (x14 : Vec F S1x128 .f32) (x15 : Vec F S128x384 .f32) (x16 : Vec F S1x384 .f32) (x17 : Vec F S128x1 .f32) : Vec F S3x64x128 .f32 :=
  View.canon [⟨r1_9, k1_pay27 (k1_pay37 x0 x1 x2 x3 x4 x5 x6 x7 x8 x9 x10 x11 x12 x13 x14 x15 x16 x17) (k1_pay38 x0 x1 x2 x3 x4 x5 x6 x7 x8 x9 x10 x11 x12 x13 x14 x15 x16 x17) (k1_pay39 x0 x1 x2 x3 x4 x5 x6 x7 x8 x9 x10 x11 x12 x13 x14 x15 x16 x17)⟩,
    ⟨r1_8, k1_pay24 (k1_pay34 x0 x1 x2 x3 x4 x5 x6 x7 x8 x9 x10 x11 x12 x13 x14 x15 x16 x17) (k1_pay35 x0 x1 x2 x3 x4 x5 x6 x7 x8 x9 x10 x11 x12 x13 x14 x15 x16 x17) (k1_pay39 x0 x1 x2 x3 x4 x5 x6 x7 x8 x9 x10 x11 x12 x13 x14 x15 x16 x17)⟩,
    ⟨r1_7, k1_pay21 (k1_pay32 x0 x1 x2 x3 x4 x5 x6 x7 x8 x9 x10 x11 x12 x13 x14 x15 x16 x17) (k1_pay33 x0 x1 x2 x3 x4 x5 x6 x7 x8 x9 x10 x11 x12 x13 x14 x15 x16 x17) (k1_pay39 x0 x1 x2 x3 x4 x5 x6 x7 x8 x9 x10 x11 x12 x13 x14 x15 x16 x17)⟩]

/-- Its stores tile the buffer (checked by evaluation), so they cover it. -/
theorem cover1_19 (p0 : Vec F S1x64x128 .f32) (p1 : Vec F S1x64x128 .f32) (p2 : Vec F S1x64x128 .f32) (y : S3x64x128.Idx) :
    ∃ pc ∈ ([⟨r1_9, p0⟩, ⟨r1_8, p1⟩, ⟨r1_7, p2⟩] : List (View.Piece (Elt F) S3x64x128 .f32)), y ∈ pc.1.set :=
  View.cover_of_tiled [⟨r1_9, p0⟩, ⟨r1_8, p1⟩, ⟨r1_7, p2⟩] S1x64x128.size (by rfl) y

/-- Window 20's staging buffer after the body, from the input windows' blocks: its 3 stores as pieces, LAST
    FIRST (Lib/Pipeline/FrameBody.lean `View.canon`; the payloads are the skeleton's and the values stated above). -/
def out1_20 (x0 : Vec F S50x64x128 .f32) (x1 : Vec F S50x64x384 .f32) (x2 : Vec F S50x64x8 .f32) (x3 : Vec F S64x128 .f32) (x4 : Vec F S3x64x128 .f32) (x5 : Vec F S128x128 .f32) (x6 : Vec F S128x128 .f32) (x7 : Vec F S1x128 .f32) (x8 : Vec F S128x128 .f32) (x9 : Vec F S1x128 .f32) (x10 : Vec F S128x128 .f32) (x11 : Vec F S128x256 .f32) (x12 : Vec F S128x128 .f32) (x13 : Vec F S128x128 .f32) (x14 : Vec F S1x128 .f32) (x15 : Vec F S128x384 .f32) (x16 : Vec F S1x384 .f32) (x17 : Vec F S128x1 .f32) : Vec F S3x64x1 .f32 :=
  View.canon [⟨r1_15, k1_pay1 (k1_pay28 (k1_pay37 x0 x1 x2 x3 x4 x5 x6 x7 x8 x9 x10 x11 x12 x13 x14 x15 x16 x17) (k1_pay38 x0 x1 x2 x3 x4 x5 x6 x7 x8 x9 x10 x11 x12 x13 x14 x15 x16 x17) (k1_pay39 x0 x1 x2 x3 x4 x5 x6 x7 x8 x9 x10 x11 x12 x13 x14 x15 x16 x17) (View.ld x17 r1_12))⟩,
    ⟨r1_14, k1_pay25 (k1_pay34 x0 x1 x2 x3 x4 x5 x6 x7 x8 x9 x10 x11 x12 x13 x14 x15 x16 x17) (k1_pay35 x0 x1 x2 x3 x4 x5 x6 x7 x8 x9 x10 x11 x12 x13 x14 x15 x16 x17) (k1_pay39 x0 x1 x2 x3 x4 x5 x6 x7 x8 x9 x10 x11 x12 x13 x14 x15 x16 x17) (View.ld x17 r1_12)⟩,
    ⟨r1_13, k1_pay22 (k1_pay32 x0 x1 x2 x3 x4 x5 x6 x7 x8 x9 x10 x11 x12 x13 x14 x15 x16 x17) (k1_pay33 x0 x1 x2 x3 x4 x5 x6 x7 x8 x9 x10 x11 x12 x13 x14 x15 x16 x17) (k1_pay39 x0 x1 x2 x3 x4 x5 x6 x7 x8 x9 x10 x11 x12 x13 x14 x15 x16 x17) (View.ld x17 r1_12)⟩]

/-- Its stores tile the buffer (checked by evaluation), so they cover it. -/
theorem cover1_20 (p0 : Vec F S1x64x1 .f32) (p1 : Vec F S1x64x1 .f32) (p2 : Vec F S1x64x1 .f32) (y : S3x64x1.Idx) :
    ∃ pc ∈ ([⟨r1_15, p0⟩, ⟨r1_14, p1⟩, ⟨r1_13, p2⟩] : List (View.Piece (Elt F) S3x64x1 .f32)), y ∈ pc.1.set :=
  View.cover_of_tiled [⟨r1_15, p0⟩, ⟨r1_14, p1⟩, ⟨r1_13, p2⟩] S1x64x1.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (arg0 : Memref sig .tc .vmem S50x64x128 .f32) (harg0 : arg0.IsWhole) (arg1 : Memref sig .tc .vmem S50x64x384 .f32) (harg1 : arg1.IsWhole) (arg2 : Memref sig .tc .vmem S50x64x8 .f32) (harg2 : arg2.IsWhole) (arg3 : Memref sig .tc .vmem S64x128 .f32) (harg3 : arg3.IsWhole) (arg4 : Memref sig .tc .vmem S3x64x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S128x256 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x384 .f32) (harg15 : arg15.IsWhole) (arg16 : Memref sig .tc .vmem S1x384 .f32) (harg16 : arg16.IsWhole) (arg17 : Memref sig .tc .vmem S128x1 .f32) (harg17 : arg17.IsWhole) (arg18 : Memref sig .tc .vmem S64x128 .f32) (harg18 : arg18.IsWhole) (arg19 : Memref sig .tc .vmem S3x64x128 .f32) (harg19 : arg19.IsWhole) (arg20 : Memref sig .tc .vmem S3x64x1 .f32) (harg20 : arg20.IsWhole)
    (x0 : Vec F S50x64x128 .f32) (x1 : Vec F S50x64x384 .f32) (x2 : Vec F S50x64x8 .f32) (x3 : Vec F S64x128 .f32) (x4 : Vec F S3x64x128 .f32) (x5 : Vec F S128x128 .f32) (x6 : Vec F S128x128 .f32) (x7 : Vec F S1x128 .f32) (x8 : Vec F S128x128 .f32) (x9 : Vec F S1x128 .f32) (x10 : Vec F S128x128 .f32) (x11 : Vec F S128x256 .f32) (x12 : Vec F S128x128 .f32) (x13 : Vec F S128x128 .f32) (x14 : Vec F S1x128 .f32) (x15 : Vec F S128x384 .f32) (x16 : Vec F S1x384 .f32) (x17 : Vec F S128x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare (out1_18 x0 x1 x2 x3 x4 x5 x6 x7 x8 x9 x10 x11 x12 x13 x14 x15 x16 x17) ∗ owns (c : Thread nD τ) arg19 fullShare (out1_19 x0 x1 x2 x3 x4 x5 x6 x7 x8 x9 x10 x11 x12 x13 x14 x15 x16 x17) ∗ owns (c : Thread nD τ) arg20 fullShare (out1_20 x0 x1 x2 x3 x4 x5 x6 x7 x8 x9 x10 x11 x12 x13 x14 x15 x16 x17)) -∗ K ⟨⟩))
      ⊢ wp frame (wpE (defs₀ (F := F)) Variants.none c none) E (cc1__graph_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc1__graph_body_eq_skeleton]; unfold cc1__graph_body_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    refine (View.read_writes_eq_canon _ _ _ (cover1_18 _)).trans ?_
    rfl
  isplitl [H19]
  · iexists _; isplitr
    swap; · iexact H19
    ipureintro
    refine (View.read_writes_eq_canon _ _ _ (cover1_19 _ _ _)).trans ?_
    rfl
  iexists _; isplitr
  swap; · iexact H20
  ipureintro
  refine (View.read_writes_eq_canon _ _ _ (cover1_20 _ _ _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => out1_18 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t)
    | ⟨19, _⟩ => out1_19 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t)
    | ⟨20, _⟩ => out1_20 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t)
    | ⟨_ + 21, h⟩ => absurd h (Nat.not_lt.2 (Nat.le_add_left _ _))
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = out1_18 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) := by dsimp only [dat1]
theorem after1_19 (c : Dev nD) (t : Fin cfg1.N) : (dat1 V c).after 19 t = out1_19 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) := by dsimp only [dat1]
theorem after1_20 (c : Dev nD) (t : Fin cfg1.N) : (dat1 V c).after 20 t = out1_20 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t))

set_option maxHeartbeats 4000000 in
/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel1 c Set.univ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

set_option maxHeartbeats 4000000 in
/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Launched

end
-- ==== Proof.KernelIdeal.Launched.lean ====
/- The whole program: the contents of every buffer between its five stretches, and its run from any launch memory. -/
module

public import proofs.«01_k».proof.Proof.KernelIdeal.Region0
public import proofs.«01_k».proof.Proof.KernelIdeal.Region1

@[expose] public section

-- membership in a rectangle of production extents (`View.cover_of_tiled`): the elaborator's structural look
-- recurses once per coordinate of the long axes
set_option maxRecDepth 16384

noncomputable section

namespace Cert.KernelIdeal.Launched

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_cst, main_v3, main_cst_0, main_v4, main_v5, main_v6, main_v7, main_v8, main_v9, main_cst_1, main_v10, main_v11, main_cst_2, main_v12, main_v13, main_v14, main_v15, main_c, main_v16, main_v17, main_v18, main_v19, main_v20, main_v21, main_v22, main_v23, main_v24, main_v25, main_v26, main_v27]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v29, main_v30, main_v31, main_v32, main_v33, main_v34, main_v35, main_v36, main_v37]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v39, main_v40]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run at any `F`: from any memory with zero counters, every weakly fair execution terminates without a fault, every
    unscoped buffer ends at the last boundary's contents `W5`, and every semaphore counter ends at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- No argument array is scoped. -/
theorem args_unscoped : ∀ a ∈ argRefs, ¬ (Proc.devRef .tc a : DevRef τ sig).isScoped :=
  ListAll.forall_mem_of_all_decide (by decide +kernel)

/-- What the run leaves in an argument array is what the launch held there. -/
theorem arg_kept {s : MemSt nD τ sig (Elt F)}
    (h : ∀ c : Dev nD, ∀ b ∈ Pipeline.ucRefs τ sig, s.mem (((c : Thread nD τ)).1, b) = W5 m ρ c b)
    (c : Dev nD) (a : Ref sig .tc) (ha : a ∈ argRefs) :
    s.mem ((c.tc : Thread nD τ).loc a) = m ((c.tc : Thread nD τ).loc a) :=
  (h c _ (mem_uc a (args_unscoped a ha))).trans (W5_args m ρ c a ha)

/-- The frame at any `F`: the run terminates without a fault, every argument array ends as launched, and every semaphore
    counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28))
      ∧ r.2.sem = fun _ => 0) :=
  (θ_run defs _ _).mono (fun r h => ⟨fun c => by
    and_intros
    all_goals exact arg_kept m ρ h.1 c _ (by decide), h.2⟩) (run m ρ)

end Cert.KernelIdeal.Launched

end
-- ==== Proof.Spec.lean ====
/- The layer in plain mathematics: what each of the five results is at an index, over the extended reals, as a function
   of the argument arrays. Both programs are read to these definitions. -/
module

public import Idealize.ShloMosaic.Lib.Pointwise

@[expose] public section

set_option maxRecDepth 16384

noncomputable section

namespace Cert.Spec

open Idealize.ShloMosaic

/-- The argument arrays, curried; `g n` is the graph of node `n`. -/
structure Inputs where
  x : Fin 100000 → Fin 128 → EReal
  sl : Fin 64 → Fin 128 → EReal
  vec : Fin 100000 → Fin 3 → Fin 128 → EReal
  vl : Fin 64 → Fin 3 → Fin 128 → EReal
  ef : Fin 100000 → Fin 16 → EReal
  eu : Fin 100000 → Fin 3 → EReal
  g : Fin 100000 → Fin 64
  Wxp1 : Fin 128 → Fin 128 → EReal
  bxp1 : Fin 128 → EReal
  Wxp2 : Fin 128 → Fin 384 → EReal
  bxp2 : Fin 384 → EReal
  Wep : Fin 16 → Fin 384 → EReal
  bep : Fin 384 → EReal
  Wsl1 : Fin 256 → Fin 128 → EReal
  bsl1 : Fin 128 → EReal
  Wsl2 : Fin 128 → Fin 128 → EReal
  bsl2 : Fin 128 → EReal
  Wvl : Fin 128 → Fin 128 → EReal
  Wsg1 : Fin 256 → Fin 128 → EReal
  bsg1 : Fin 128 → EReal
  Wsg2 : Fin 128 → Fin 128 → EReal
  bsg2 : Fin 128 → EReal
  Wvg : Fin 128 → Fin 128 → EReal
  Wvlp : Fin 128 → Fin 256 → EReal
  Wslp1 : Fin 256 → Fin 128 → EReal
  bslp1 : Fin 128 → EReal
  Wslp2 : Fin 128 → Fin 384 → EReal
  bslp2 : Fin 384 → EReal
  Wl : Fin 128 → Fin 1 → EReal

/-- The inputs read off twenty-eight arrays and a graph number for each node. -/
def Inputs.of (g : Fin 100000 → Fin 64)
    (x0 : FVec Ideal ⟨2, ![100000, 128]⟩ .f32) (x1 : FVec Ideal ⟨2, ![64, 128]⟩ .f32)
    (x2 : FVec Ideal ⟨3, ![100000, 3, 128]⟩ .f32) (x3 : FVec Ideal ⟨3, ![64, 3, 128]⟩ .f32)
    (x4 : FVec Ideal ⟨2, ![100000, 16]⟩ .f32) (x5 : FVec Ideal ⟨2, ![100000, 3]⟩ .f32)
    (x7 : FVec Ideal ⟨2, ![128, 128]⟩ .f32) (x8 : FVec Ideal ⟨1, ![128]⟩ .f32)
    (x9 : FVec Ideal ⟨2, ![128, 384]⟩ .f32) (x10 : FVec Ideal ⟨1, ![384]⟩ .f32)
    (x11 : FVec Ideal ⟨2, ![16, 384]⟩ .f32) (x12 : FVec Ideal ⟨1, ![384]⟩ .f32)
    (x13 : FVec Ideal ⟨2, ![256, 128]⟩ .f32) (x14 : FVec Ideal ⟨1, ![128]⟩ .f32)
    (x15 : FVec Ideal ⟨2, ![128, 128]⟩ .f32) (x16 : FVec Ideal ⟨1, ![128]⟩ .f32)
    (x17 : FVec Ideal ⟨2, ![128, 128]⟩ .f32)
    (x18 : FVec Ideal ⟨2, ![256, 128]⟩ .f32) (x19 : FVec Ideal ⟨1, ![128]⟩ .f32)
    (x20 : FVec Ideal ⟨2, ![128, 128]⟩ .f32) (x21 : FVec Ideal ⟨1, ![128]⟩ .f32)
    (x22 : FVec Ideal ⟨2, ![128, 128]⟩ .f32) (x23 : FVec Ideal ⟨2, ![128, 256]⟩ .f32)
    (x24 : FVec Ideal ⟨2, ![256, 128]⟩ .f32) (x25 : FVec Ideal ⟨1, ![128]⟩ .f32)
    (x26 : FVec Ideal ⟨2, ![128, 384]⟩ .f32) (x27 : FVec Ideal ⟨1, ![384]⟩ .f32)
    (x28 : FVec Ideal ⟨2, ![128, 1]⟩ .f32) : Inputs where
  g := g
  x n j := x0 (ix2 n j)
  sl b j := x1 (ix2 b j)
  vec n k j := x2 (ix3 n k j)
  vl b k j := x3 (ix3 b k j)
  ef n r := x4 (ix2 n r)
  eu n k := x5 (ix2 n k)
  Wxp1 i j := x7 (ix2 i j)
  bxp1 j := x8 (ix1 j)
  Wxp2 i j := x9 (ix2 i j)
  bxp2 j := x10 (ix1 j)
  Wep i j := x11 (ix2 i j)
  bep j := x12 (ix1 j)
  Wsl1 i j := x13 (ix2 i j)
  bsl1 j := x14 (ix1 j)
  Wsl2 i j := x15 (ix2 i j)
  bsl2 j := x16 (ix1 j)
  Wvl i j := x17 (ix2 i j)
  Wsg1 i j := x18 (ix2 i j)
  bsg1 j := x19 (ix1 j)
  Wsg2 i j := x20 (ix2 i j)
  bsg2 j := x21 (ix1 j)
  Wvg i j := x22 (ix2 i j)
  Wvlp i j := x23 (ix2 i j)
  Wslp1 i j := x24 (ix2 i j)
  bslp1 j := x25 (ix1 j)
  Wslp2 i j := x26 (ix2 i j)
  bslp2 j := x27 (ix1 j)
  Wl i j := x28 (ix2 i j)

/-- The activation's scale, 1/0.6 as a float32. -/
def cS : EReal := Ideal.ofBits .f32 0x3FD55555#32
/-- 1/√3 as a float32. -/
def c3 : EReal := Ideal.ofBits .f32 0x3F13CD3A#32
/-- 1/√3 · 1/√128 as a float32. -/
def c3H : EReal := Ideal.ofBits .f32 0x3D5105EC#32
/-- The number under the square root, 1e-8 as a float32. -/
def cE : EReal := Ideal.ofBits .f32 0x322BCC77#32

/-- `v · logistic v`. -/
def silu (v : EReal) : EReal := v * Ideal.logistic v
/-- The scaled activation. -/
def ssilu (v : EReal) : EReal := silu v * cS

/-- Column `j` of the first of the blocks a long axis is cut in. -/
abbrev lo {m n : Nat} (h : m ≤ n) (j : Fin m) : Fin n := ⟨j.val, lt_of_lt_of_le j.isLt h⟩
/-- Column `j` of the block that starts at `o`. -/
abbrev at' {m n : Nat} (o : Nat) (h : o + m ≤ n) (j : Fin m) : Fin n := ⟨o + j.val, by have := j.isLt; omega⟩

namespace Inputs
variable (A : Inputs)

/-! ## The nodes -/

/-- The node embedding's first activation. -/
def t (n : Fin 100000) (k : Fin 128) : EReal := ssilu (∑ i : Fin 128, A.x n i * A.Wxp1 i k + A.bxp1 k)
/-- The projected node embedding. -/
def xp (n : Fin 100000) (j : Fin 384) : EReal := ∑ k : Fin 128, A.t n k * A.Wxp2 k j + A.bxp2 j
/-- The projected edge features. -/
def ep (n : Fin 100000) (j : Fin 384) : EReal := ∑ r : Fin 16, A.ef n r * A.Wep r j + A.bep j
/-- Their product. -/
def prod (n : Fin 100000) (j : Fin 384) : EReal := A.xp n j * A.ep n j
/-- The updated node embedding. -/
def xn (n : Fin 100000) (j : Fin 128) : EReal := A.prod n (at' 256 (by decide) j) * c3 + A.x n j
/-- The updated node vector. -/
def vecn (n : Fin 100000) (k : Fin 3) (j : Fin 128) : EReal :=
  (A.prod n (lo (by decide) j) * A.vec n k j + A.prod n (at' 128 (by decide) j) * A.eu n k) * c3H
/-- The hidden layer of the node's scalar result. -/
def hid (n : Fin 100000) (j : Fin 128) : EReal :=
  silu ((∑ i : Fin 128, A.xn n i * A.Wsl1 (lo (by decide) i) j
    + ∑ i : Fin 128, A.sl (A.g n) i * A.Wsl1 (at' 128 (by decide) i) j) + A.bsl1 j)
/-- RESULT 1, the node's scalars. -/
def hx (n : Fin 100000) (j : Fin 128) : EReal :=
  ssilu (∑ k : Fin 128, A.hid n k * cS * A.Wsl2 k j + A.bsl2 j) + A.xn n j
/-- RESULT 2, the node's vectors. -/
def hv (n : Fin 100000) (k : Fin 3) (j : Fin 128) : EReal :=
  ∑ i : Fin 128, (A.vecn n k i + A.vl (A.g n) k i) * A.Wvl i j + A.vecn n k j

/-! ## The graphs -/

/-- How many nodes graph `b` has. -/
def cnt (b : Fin 64) : EReal := ∑ n : Fin 100000, if A.g n = b then 1 else 0
/-- The sum of the node scalars over graph `b`. -/
def sumx (b : Fin 64) (j : Fin 128) : EReal := ∑ n : Fin 100000, if A.g n = b then A.hx n j else 0
/-- The sum of the node vectors over graph `b`. -/
def sumv (b : Fin 64) (k : Fin 3) (j : Fin 128) : EReal := ∑ n : Fin 100000, if A.g n = b then A.hv n k j else 0
/-- The mean of the node scalars over graph `b`. -/
def mx (b : Fin 64) (j : Fin 128) : EReal := Ideal.div (A.sumx b j) (max (A.cnt b) 1)
/-- The mean of the node vectors over graph `b`. -/
def mv (b : Fin 64) (k : Fin 3) (j : Fin 128) : EReal := Ideal.div (A.sumv b k j) (max (A.cnt b) 1)
/-- The graph scalars' hidden layer. -/
def gh (b : Fin 64) (j : Fin 128) : EReal :=
  ssilu ((∑ i : Fin 128, A.mx b i * A.Wsg1 (lo (by decide) i) j
    + ∑ i : Fin 128, A.sl b i * A.Wsg1 (at' 128 (by decide) i) j) + A.bsg1 j)
/-- The updated graph scalars. -/
def sl1 (b : Fin 64) (j : Fin 128) : EReal := A.sl b j + ssilu (∑ k : Fin 128, A.gh b k * A.Wsg2 k j + A.bsg2 j)
/-- The updated graph vectors. -/
def vl1 (b : Fin 64) (k : Fin 3) (j : Fin 128) : EReal :=
  A.vl b k j + ∑ i : Fin 128, (A.mv b k i + A.vl b k i) * A.Wvg i j
/-- Their projection. -/
def vh (b : Fin 64) (k : Fin 3) (j : Fin 256) : EReal := ∑ i : Fin 128, A.vl1 b k i * A.Wvlp i j
/-- The norm of the projection's second half. -/
def vn (b : Fin 64) (j : Fin 128) : EReal :=
  Ideal.sqrt ((∑ k : Fin 3, A.vh b k (at' 128 (by decide) j) * A.vh b k (at' 128 (by decide) j)) + cE)
/-- The gates' hidden layer. -/
def sp (b : Fin 64) (k : Fin 128) : EReal :=
  ssilu ((∑ i : Fin 128, A.sl1 b i * A.Wslp1 (lo (by decide) i) k
    + ∑ i : Fin 128, A.vn b i * A.Wslp1 (at' 128 (by decide) i) k) + A.bslp1 k)
/-- The gates. -/
def sh (b : Fin 64) (j : Fin 384) : EReal := ∑ k : Fin 128, A.sp b k * A.Wslp2 k j + A.bslp2 j
/-- RESULT 3, the graph's scalars. -/
def slo (b : Fin 64) (j : Fin 128) : EReal :=
  A.sh b (at' 128 (by decide) j) + A.sl1 b j * Ideal.tanh (A.sh b (at' 256 (by decide) j))
/-- RESULT 4, the graph's vectors. -/
def vlo (b : Fin 64) (k : Fin 3) (j : Fin 128) : EReal :=
  A.sh b (lo (by decide) j) * A.vh b k (lo (by decide) j) + A.vl1 b k j
/-- RESULT 5, the graph's lattice update. -/
def ld (b : Fin 64) (k : Fin 3) (j : Fin 1) : EReal := ∑ i : Fin 128, A.vlo b k i * A.Wl i j

end Inputs
end Cert.Spec
-- ==== Proof.Arith.lean ====
/- The arithmetic of the extended reals the comparison uses: a nonnegative real factor moves through sums, a one-hot row
   picks an entry, and the constants are such factors. -/
module

public import proofs.«01_k».proof.Proof.Spec

@[expose] public section

set_option maxRecDepth 16384

noncomputable section

namespace Cert.Spec

open Idealize.ShloMosaic

/-- The scale of the edge projection's columns: the first two blocks' and the third's. -/
def colscale (j : Fin 384) : EReal := if j.val < 256 then c3H else c3

theorem colscale_low (j : Fin 384) (h : j.val < 256) : colscale j = c3H := if_pos h

theorem colscale_high (j : Fin 384) (h : ¬ j.val < 256) : colscale j = c3 := if_neg h

/-! ## The constants are nonnegative reals -/

theorem c3_eq : c3 = ((9686330 / 2 ^ 24 : ℝ) : EReal) := by
  unfold c3; simp [Ideal.ofBits, Ideal.ieee, -EReal.coe_mul]; norm_num

theorem c3H_eq : c3H = ((13698540 / 2 ^ 28 : ℝ) : EReal) := by
  unfold c3H; simp [Ideal.ofBits, Ideal.ieee, -EReal.coe_mul]; norm_num

theorem cS_eq : cS = ((13981013 / 2 ^ 23 : ℝ) : EReal) := by
  unfold cS; simp [Ideal.ofBits, Ideal.ieee, -EReal.coe_mul]; norm_num

/-- An extended real is a scale when it is a nonnegative real. -/
def Scale (c : EReal) : Prop := 0 ≤ c ∧ c ≠ ⊤

theorem scale_c3 : Scale c3 := by
  rw [c3_eq]; exact ⟨EReal.coe_nonneg.mpr (by positivity), EReal.coe_ne_top _⟩

theorem scale_c3H : Scale c3H := by
  rw [c3H_eq]; exact ⟨EReal.coe_nonneg.mpr (by positivity), EReal.coe_ne_top _⟩

theorem scale_colscale (j : Fin 384) : Scale (colscale j) := by
  unfold colscale; split
  · exact scale_c3H
  · exact scale_c3

/-! ## A scale moves through sums -/

theorem Scale.add_mul {c : EReal} (h : Scale c) (a b : EReal) : (a + b) * c = a * c + b * c :=
  EReal.right_distrib_of_nonneg_of_ne_top h.1 h.2 a b

theorem Scale.sum_mul {c : EReal} (h : Scale c) {ι : Type} (s : Finset ι) (f : ι → EReal) :
    (∑ i ∈ s, f i) * c = ∑ i ∈ s, f i * c := by
  classical
  induction s using Finset.induction_on with
  | empty => simp
  | insert a s ha ih => rw [Finset.sum_insert ha, Finset.sum_insert ha, h.add_mul, ih]

/-- A linear layer whose weights and bias are scaled is the layer, scaled. -/
theorem Scale.linear {c : EReal} (h : Scale c) {K : Nat} (f w : Fin K → EReal) (b : EReal) :
    (∑ k, f k * (w k * c)) + b * c = ((∑ k, f k * w k) + b) * c := by
  rw [h.add_mul, h.sum_mul]
  simp only [mul_assoc]

/-- A factor of the weights is as well a factor of the activations. -/
theorem scaled_weights {K : Nat} (f w : Fin K → EReal) (c : EReal) :
    ∑ k, f k * (w k * c) = ∑ k, (f k * c) * w k :=
  Finset.sum_congr rfl fun k _ => by rw [mul_comm (w k) c, mul_assoc]

/-! ## One-hot rows -/

/-- A one-hot row against a column picks the entry of its class. -/
theorem onehot_row {K : Nat} (g : Fin K) (f : Fin K → EReal) : ∑ b, (if g = b then (1 : EReal) else 0) * f b = f g := by
  rw [Finset.sum_eq_single g]
  · simp
  · intro b _ hb; rw [if_neg (Ne.symm hb), zero_mul]
  · intro h; exact absurd (Finset.mem_univ _) h

/-- A one-hot entry times a value is the value where the class agrees. -/
theorem onehot_mul {K : Nat} (g b : Fin K) (x : EReal) :
    (if g = b then (1 : EReal) else 0) * x = if g = b then x else 0 := by
  split <;> simp

/-! ## Reals -/

/-- An extended real that is a real number. -/
def Real' (x : EReal) : Prop := ∃ r : ℝ, x = (r : EReal)

theorem Real'.mul {x y : EReal} : Real' x → Real' y → Real' (x * y) := by
  rintro ⟨a, rfl⟩ ⟨b, rfl⟩; exact ⟨a * b, (EReal.coe_mul a b).symm⟩

theorem Real'.add {x y : EReal} : Real' x → Real' y → Real' (x + y) := by
  rintro ⟨a, rfl⟩ ⟨b, rfl⟩; exact ⟨a + b, (EReal.coe_add a b).symm⟩

theorem Real'.sum {ι : Type} (s : Finset ι) (f : ι → EReal) (h : ∀ i, Real' (f i)) : Real' (∑ i ∈ s, f i) := by
  classical
  induction s using Finset.induction_on with
  | empty => exact ⟨0, by simp⟩
  | insert a s ha ih => rw [Finset.sum_insert ha]; exact (h a).add ih

/-- A real factor distributes over a sum whose first term is real. -/
theorem Real'.add_mul {x w : EReal} (hx : Real' x) (hw : Real' w) (y : EReal) : (x + y) * w = x * w + y * w := by
  obtain ⟨a, rfl⟩ := hx
  obtain ⟨b, rfl⟩ := hw
  induction y using EReal.rec with
  | coe y => rw [← EReal.coe_add, ← EReal.coe_mul, ← EReal.coe_mul, ← EReal.coe_mul, ← EReal.coe_add, _root_.add_mul]
  | bot =>
    rcases lt_trichotomy b 0 with h | rfl | h
    · rw [EReal.add_bot, EReal.bot_mul_coe_of_neg h, ← EReal.coe_mul, EReal.coe_add_top]
    · simp
    · rw [EReal.add_bot, EReal.bot_mul_coe_of_pos h, EReal.add_bot]
  | top =>
    rcases lt_trichotomy b 0 with h | rfl | h
    · rw [EReal.coe_add_top, EReal.top_mul_coe_of_neg h, EReal.add_bot]
    · simp
    · rw [EReal.coe_add_top, EReal.top_mul_coe_of_pos h, ← EReal.coe_mul, EReal.coe_add_top]

/-- A product with the weights plus the identity is the product with the weights plus the row itself, and the
    second matrix product joins the first. -/
theorem residual_weights {K : Nat} (v u : Fin K → EReal) (w : Fin K → EReal) (j : Fin K)
    (hv : ∀ i, Real' (v i)) (hw : ∀ i, Real' (w i)) :
    (∑ i, v i * (w i + if i = j then 1 else 0)) + ∑ i, u i * w i = (∑ i, (v i + u i) * w i) + v j := by
  have e1 : ∀ i, v i * (w i + if i = j then 1 else 0) = v i * w i + if i = j then v i else 0 := by
    intro i
    obtain ⟨a, ha⟩ := hv i
    obtain ⟨b, hb⟩ := hw i
    rw [ha, hb]
    split
    · rw [← EReal.coe_one, ← EReal.coe_add, ← EReal.coe_mul, ← EReal.coe_mul, ← EReal.coe_add, mul_add, mul_one]
    · simp
  have e2 : ∀ i, (v i + u i) * w i = v i * w i + u i * w i := fun i => (hv i).add_mul (hw i) _
  simp only [e1, e2, Finset.sum_add_distrib, Finset.sum_ite_eq', Finset.mem_univ, if_true]
  rw [add_right_comm]

/-- The logistic function of a real is real. -/
theorem Real'.logistic {x : EReal} : Real' x → Real' (Ideal.logistic x) := by
  rintro ⟨a, rfl⟩
  have h : (1 : EReal) + ((Real.exp (-a) : ℝ) : EReal) = ((1 + Real.exp (-a) : ℝ) : EReal) := by push_cast; rfl
  refine ⟨1 / (1 + Real.exp (-a)), ?_⟩
  unfold Ideal.logistic
  have e : Ideal.exp (-(a : EReal)) = ((Real.exp (-a) : ℝ) : EReal) := by
    rw [← EReal.coe_neg]; rfl
  rw [e, h, Ideal.div_coe (by positivity), one_mul]

theorem real_c3H : Real' c3H := ⟨_, c3H_eq⟩

theorem real_cS : Real' cS := ⟨_, cS_eq⟩

theorem Real'.ssilu {x : EReal} (h : Real' x) : Real' (ssilu x) := (h.mul h.logistic).mul real_cS

/-- The inputs that the claim's precondition holds finite. -/
structure Inputs.Finite (A : Inputs) : Prop where
  x : ∀ n j, Real' (A.x n j)
  vec : ∀ n k j, Real' (A.vec n k j)
  ef : ∀ n j, Real' (A.ef n j)
  eu : ∀ n k, Real' (A.eu n k)
  Wxp1 : ∀ i j, Real' (A.Wxp1 i j)
  bxp1 : ∀ j, Real' (A.bxp1 j)
  Wxp2 : ∀ i j, Real' (A.Wxp2 i j)
  bxp2 : ∀ j, Real' (A.bxp2 j)
  Wep : ∀ i j, Real' (A.Wep i j)
  bep : ∀ j, Real' (A.bep j)
  Wvl : ∀ i j, Real' (A.Wvl i j)

namespace Inputs.Finite

variable {A : Inputs} (F : A.Finite)
include F

theorem t (n : Fin 100000) (k : Fin 128) : Real' (A.t n k) :=
  Real'.ssilu ((Real'.sum _ _ fun i => (F.x n i).mul (F.Wxp1 i k)).add (F.bxp1 k))

theorem prod (n : Fin 100000) (j : Fin 384) : Real' (A.prod n j) :=
  ((Real'.sum _ _ fun k => (F.t n k).mul (F.Wxp2 k j)).add (F.bxp2 j)).mul
    ((Real'.sum _ _ fun r => (F.ef n r).mul (F.Wep r j)).add (F.bep j))

/-- The node's edge vector is real. -/
theorem vecn (n : Fin 100000) (k : Fin 3) (j : Fin 128) : Real' (A.vecn n k j) :=
  (((F.prod n _).mul (F.vec n k j)).add ((F.prod n _).mul (F.eu n k))).mul real_c3H

end Inputs.Finite

/-! ## Means -/

/-- A graph's number of nodes is real. -/
theorem Inputs.real_cnt (A : Inputs) (b : Fin 64) : Real' (A.cnt b) :=
  Real'.sum _ _ fun n => by split <;> [exact ⟨1, rfl⟩; exact ⟨0, rfl⟩]

/-- A sum times the reciprocal of the count is the sum over the count. -/
theorem Inputs.mean (A : Inputs) (b : Fin 64) (s : EReal) :
    s * Ideal.div 1 (max (A.cnt b) 1) = Ideal.div s (max (A.cnt b) 1) := by
  obtain ⟨r, hr⟩ := A.real_cnt b
  have e : max (A.cnt b) 1 = ((max r 1 : ℝ) : EReal) := by rw [hr, ← EReal.coe_one]; exact (EReal.coe_strictMono.monotone.map_max).symm
  have h : max r 1 ≠ 0 := ne_of_gt (lt_of_lt_of_le one_pos (le_max_right r 1))
  rw [e, Ideal.div_coe h, Ideal.div_coe h, one_mul]

end Cert.Spec
-- ==== Proof.Loads.lean ====
/- Loads of one row of a rank-three block and of one column of a rank-two block, at an index. -/
module

public import Idealize.ShloMosaic.Lib.Pointwise
public import Idealize.ShloMosaic.Lib.Pipeline.ValueKit

@[expose] public section

set_option maxRecDepth 16384

noncomputable section

namespace Cert.Loads

open Idealize.ShloMosaic

/-- The load of row `k` of a rank-three block holds that row. -/
theorem row {A B C k : Nat} (X : Vec Ideal ⟨3, ![A, B, C]⟩ .f32) (inb) (hk : k < A) (r : Fin B) (j : Fin C) :
    View.ld X (Rect.unit (s := ⟨3, ![A, B, C]⟩) ![k, 0, 0] ![1, B, C] inb) (ix3 0 r j) = X (ix3 ⟨k, hk⟩ r j) := by
  refine View.ld_unit_apply_of X _ _ _ _ _ fun a => ?_
  match a with
  | 0 => exact (Nat.add_zero k).symm
  | 1 => exact (Nat.zero_add r.val).symm
  | 2 => exact (Nat.zero_add j.val).symm

/-- The load of column `k` of a rank-two block holds that column. -/
theorem column {A B k : Nat} (X : Vec Ideal ⟨2, ![A, B]⟩ .f32) (inb) (hk : k < B) (r : Fin A) :
    View.ld X (Rect.unit (s := ⟨2, ![A, B]⟩) ![0, k] ![A, 1] inb) (ix2 r 0) = X (ix2 r ⟨k, hk⟩) := by
  refine View.ld_unit_apply_of X _ _ _ _ _ fun a => ?_
  match a with
  | 0 => exact (Nat.zero_add r.val).symm
  | 1 => exact (Nat.add_zero k).symm

end Cert.Loads
-- ==== Proof.KernelIdeal.Node.lean ====
/- The node body's payloads at an index: over blocks that hold two thousand nodes' rows, the body stores the layer's
   plain mathematics (`Proof/Spec.lean`) of those nodes. -/
module

public import proofs.«01_k».proof.Proof.KernelIdeal.Region0
public import proofs.«01_k».proof.Proof.Arith
public import proofs.«01_k».proof.Proof.Loads
public import Idealize.ShloMosaic.Lib.Pointwise
public import Idealize.ShloMosaic.Lib.Pipeline.ValueKit

@[expose] public section

set_option maxRecDepth 16384

noncomputable section

namespace Cert.KernelIdeal.Node

open Cert.KernelIdeal Cert.KernelIdeal.Gen Cert.KernelIdeal.Launched Cert.Spec Idealize.ShloMosaic

/-- The comparison of a row's number with a class, as a float: one where they agree, zero elsewhere. -/
theorem onehot_word (b g : Fin 64) :
    (FloatOps.sitofp .f32 (BitVec.setWidth 32 (IntOp.cmpi .eq (BitVec.ofNat 32 b.val) (BitVec.ofNat 32 g.val))) : Ideal .f32)
      = if g = b then 1 else 0 := by
  by_cases h : g = b
  · subst h
    rw [if_pos rfl]
    change ((((BitVec.setWidth 32 (IntOp.cmpi .eq (BitVec.ofNat 32 g.val) (BitVec.ofNat 32 g.val))).toInt : ℤ) : ℝ) : EReal) = 1
    have : BitVec.setWidth 32 (IntOp.cmpi .eq (BitVec.ofNat 32 g.val) (BitVec.ofNat 32 g.val)) = 1#32 := by
      simp [IntOp.cmpi]
    rw [this]; simp
  · have hne : BitVec.ofNat 32 b.val ≠ BitVec.ofNat 32 g.val := fun e => h <| Fin.ext <| by
      have e' := congrArg BitVec.toNat e
      simp only [BitVec.toNat_ofNat] at e'
      omega
    rw [if_neg h]
    change ((((BitVec.setWidth 32 (IntOp.cmpi .eq (BitVec.ofNat 32 b.val) (BitVec.ofNat 32 g.val))).toInt : ℤ) : ℝ) : EReal) = 0
    have : BitVec.setWidth 32 (IntOp.cmpi .eq (BitVec.ofNat 32 b.val) (BitVec.ofNat 32 g.val)) = 0#32 := by
      rw [IntOp.cmpi]
      simp only [beq_eq_false_iff_ne.mpr hne]
      rfl
    rw [this]; simp

variable {A : Inputs} {n : Fin 2000 → Fin 100000}
  {x0 : FVec Ideal S2000x128 .f32} {x1 : FVec Ideal S3x2000x128 .f32} {x2 : FVec Ideal S2000x16 .f32} {x3 : FVec Ideal S2000x3 .f32}
  {x4 : IVec S1x1x2000 32} {x5 : FVec Ideal S64x128 .f32} {x6 : FVec Ideal S3x64x128 .f32} {x7 : FVec Ideal S128x128 .f32}
  {x8 : FVec Ideal S1x128 .f32} {x9 : FVec Ideal S128x384 .f32} {x10 : FVec Ideal S1x384 .f32} {x11 : FVec Ideal S16x384 .f32}
  {x12 : FVec Ideal S1x384 .f32} {x13 : FVec Ideal S128x128 .f32} {x14 : FVec Ideal S128x128 .f32} {x15 : FVec Ideal S1x128 .f32}
  {x16 : FVec Ideal S128x128 .f32} {x17 : FVec Ideal S1x128 .f32} {x18 : FVec Ideal S128x128 .f32} {x19 : FVec Ideal S128x128 .f32}

/-- The twenty input blocks hold the rows of the nodes `n r`, and the weights, the two that are scaled scaled. -/
structure Holds (A : Inputs) (n : Fin 2000 → Fin 100000)
    (x0 : FVec Ideal S2000x128 .f32) (x1 : FVec Ideal S3x2000x128 .f32) (x2 : FVec Ideal S2000x16 .f32) (x3 : FVec Ideal S2000x3 .f32)
    (x4 : IVec S1x1x2000 32) (x5 : FVec Ideal S64x128 .f32) (x6 : FVec Ideal S3x64x128 .f32) (x7 : FVec Ideal S128x128 .f32)
    (x8 : FVec Ideal S1x128 .f32) (x9 : FVec Ideal S128x384 .f32) (x10 : FVec Ideal S1x384 .f32) (x11 : FVec Ideal S16x384 .f32)
    (x12 : FVec Ideal S1x384 .f32) (x13 : FVec Ideal S128x128 .f32) (x14 : FVec Ideal S128x128 .f32) (x15 : FVec Ideal S1x128 .f32)
    (x16 : FVec Ideal S128x128 .f32) (x17 : FVec Ideal S1x128 .f32) (x18 : FVec Ideal S128x128 .f32) (x19 : FVec Ideal S128x128 .f32) : Prop where
  h0 : ∀ r j, x0 (ix2 r j) = A.x (n r) j
  h1 : ∀ k r j, x1 (ix3 k r j) = A.vec (n r) k j
  h2 : ∀ r j, x2 (ix2 r j) = A.ef (n r) j
  h3 : ∀ r k, x3 (ix2 r k) = A.eu (n r) k
  h4 : ∀ r, x4 (ix3 0 0 r) = BitVec.ofNat 32 (A.g (n r)).val
  h5 : ∀ b j, x5 (ix2 b j) = A.sl b j
  h6 : ∀ k b j, x6 (ix3 k b j) = A.vl b k j
  h7 : ∀ i j, x7 (ix2 i j) = A.Wxp1 i j
  h8 : ∀ j, x8 (ix2 0 j) = A.bxp1 j
  h9 : ∀ i j, x9 (ix2 i j) = A.Wxp2 i j * cS
  h10 : ∀ j, x10 (ix2 0 j) = A.bxp2 j
  h11 : ∀ i j, x11 (ix2 i j) = A.Wep i j * colscale j
  h12 : ∀ j, x12 (ix2 0 j) = A.bep j * colscale j
  h13 : ∀ i j, x13 (ix2 i j) = A.Wsl1 (lo (by decide) i) j
  h14 : ∀ i j, x14 (ix2 i j) = A.Wsl1 (at' 128 (by decide) i) j
  h15 : ∀ j, x15 (ix2 0 j) = A.bsl1 j
  h16 : ∀ i j, x16 (ix2 i j) = A.Wsl2 i j * cS
  h17 : ∀ j, x17 (ix2 0 j) = A.bsl2 j
  h18 : ∀ i j, x18 (ix2 i j) = A.Wvl i j
  h19 : ∀ i j, x19 (ix2 i j) = A.Wvl i j + if i = j then 1 else 0

/-- What the body computes a vector component from: the one-hot mask, the two scaled column blocks, and the component's
    rows of the vectors, the edge directions and the graphs' vectors. -/
structure Component (A : Inputs) (n : Fin 2000 → Fin 100000) (k : Fin 3) (v8 : FVec Ideal S64x2000 .f32)
    (v33 v34 : FVec Ideal S2000x128 .f32) (y : Fin 2000 → Fin 128 → EReal) (v79 : FVec Ideal S2000x1 .f32)
    (v84 : FVec Ideal S1x64x128 .f32) : Prop where
  h8 : ∀ b r, v8 (ix2 b r) = if A.g (n r) = b then 1 else 0
  h33 : ∀ (r : Fin 2000) (j : Fin 128), v33 (ix2 r j) = A.prod (n r) (lo (by decide) j) * c3H
  h34 : ∀ (r : Fin 2000) (j : Fin 128), v34 (ix2 r j) = A.prod (n r) (at' 128 (by decide) j) * c3H
  h77 : ∀ r j, y r j = A.vec (n r) k j
  h79 : ∀ r, v79 (ix2 r 0) = A.eu (n r) k
  h84 : ∀ b j, v84 (ix3 0 b j) = A.vl b k j

variable {v8 : FVec Ideal S64x2000 .f32} {v33 v34 v36 : FVec Ideal S2000x128 .f32}
  (H : Holds A n x0 x1 x2 x3 x4 x5 x6 x7 x8 x9 x10 x11 x12 x13 x14 x15 x16 x17 x18 x19)
include H

/-- The one-hot mask: row `b`, node `r`. -/
theorem pay3 (b : Fin 64) (r : Fin 2000) : k0_pay3 (F := Ideal) x4 (ix2 b r) = if A.g (n r) = b then 1 else 0 := by
  pointwise [k0_pay3, H.h4]
  exact onehot_word b _

/-- The product of the projected embedding and the scaled projected edge features. -/
theorem pay4 (r : Fin 2000) (j : Fin 384) :
    k0_pay4 (F := Ideal) x0 x7 x8 x9 x10 x2 x11 x12 (ix2 r j) = A.prod (n r) j * colscale j := by
  pointwise [k0_pay4, H.h0, H.h2, H.h7, H.h8, H.h9, H.h10, H.h11, H.h12]
  rw [(scale_colscale j).linear (A.ef (n r)) (fun k => A.Wep k j), ← mul_assoc, scaled_weights]
  rfl

/-- The first column block of the product, scaled. -/
theorem pay5 (r : Fin 2000) (j : Fin 128) :
    k0_pay5 (F := Ideal) x0 x7 x8 x9 x10 x2 x11 x12 (ix2 r j) = A.prod (n r) (lo (by decide) j) * c3H := by
  pointwise [k0_pay5, pay4 H]
  rw [colscale_low _ (by simp only; omega)]

/-- The second column block of the product, scaled. -/
theorem pay6 (r : Fin 2000) (j : Fin 128) :
    k0_pay6 (F := Ideal) x0 x7 x8 x9 x10 x2 x11 x12 (ix2 r j) = A.prod (n r) (at' 128 (by decide) j) * c3H := by
  pointwise [k0_pay6, pay4 H]
  rw [colscale_low _ (by simp only; omega)]

/-- The node's features after the edge update. -/
theorem pay7 (r : Fin 2000) (j : Fin 128) :
    k0_pay7 (F := Ideal) x0 x7 x8 x9 x10 x2 x11 x12 (ix2 r j) = A.xn (n r) j := by
  pointwise [k0_pay7, pay4 H, H.h0]
  rw [colscale_high _ (by simp only; omega)]
  rfl

/-- The node's scalar result. -/
theorem pay8 (h8 : ∀ b r, v8 (ix2 b r) = if A.g (n r) = b then 1 else 0) (h36 : ∀ r j, v36 (ix2 r j) = A.xn (n r) j)
    (r : Fin 2000) (j : Fin 128) :
    k0_pay8 (F := Ideal) v8 v36 x5 x14 x13 x15 x16 x17 (ix2 r j) = A.hx (n r) j := by
  pointwise [k0_pay8, h8, h36, H.h5, H.h13, H.h14, H.h15, H.h16, H.h17, onehot_row]
  rw [scaled_weights]
  rfl

/-- The block's sum of the scalar results over the nodes of a graph. -/
theorem pay9 (h8 : ∀ b r, v8 (ix2 b r) = if A.g (n r) = b then 1 else 0) (h36 : ∀ r j, v36 (ix2 r j) = A.xn (n r) j)
    (b : Fin 64) (j : Fin 128) :
    k0_pay9 (F := Ideal) v8 v36 x5 x14 x13 x15 x16 x17 (ix3 0 b j)
      = ∑ r : Fin 2000, if A.g (n r) = b then A.hx (n r) j else 0 := by
  pointwise [k0_pay9, h8, pay8 H h8 h36, onehot_mul]

omit H in
/-- The block's number of nodes of a graph. -/
theorem pay11 (h8 : ∀ b r, v8 (ix2 b r) = if A.g (n r) = b then 1 else 0) (b : Fin 64) (j : Fin 8) :
    k0_pay11 (F := Ideal) v8 k0_pay10 (constant S64x8 .f32 0x00000000#32) (ix3 0 b j)
      = ∑ r : Fin 2000, if A.g (n r) = b then 1 else 0 := by
  pointwise [k0_pay11, k0_pay10, h8, onehot_mul]

/-- What the three vector components have in common: from the scaled column blocks and the component's rows, the
    residual weights give the node's vector result. -/
theorem component (hR : A.Finite) (k : Fin 3) (r : Fin 2000) (j : Fin 128) :
    (∑ i, (A.prod (n r) (lo (by decide) i) * c3H * A.vec (n r) k i + A.prod (n r) (at' 128 (by decide) i) * c3H * A.eu (n r) k)
        * (A.Wvl i j + if i = j then 1 else 0)) + ∑ i, A.vl (A.g (n r)) k i * A.Wvl i j = A.hv (n r) k j := by
  have e : ∀ i, A.prod (n r) (lo (by decide) i) * c3H * A.vec (n r) k i
      + A.prod (n r) (at' 128 (by decide) i) * c3H * A.eu (n r) k = A.vecn (n r) k i := fun i => by
    rw [mul_right_comm, mul_right_comm _ c3H, ← scale_c3H.add_mul]; rfl
  simp only [e]
  rw [residual_weights _ _ _ _ (fun i => hR.vecn (n r) k i) (fun i => hR.Wvl i j)]
  rfl

/-- The first component: the node's vector result. -/
theorem pay13 (hR : A.Finite) {k : Fin 3} {v77 : FVec Ideal S1x2000x128 .f32} {v79 : FVec Ideal S2000x1 .f32}
    {v84 : FVec Ideal S1x64x128 .f32} (C : Component A n k v8 v33 v34 (fun r j => v77 (ix3 0 r j)) v79 v84)
    (r : Fin 2000) (j : Fin 128) :
    k0_pay13 (F := Ideal) v8 v33 v34 x19 x18 v77 v79 v84 (ix2 r j) = A.hv (n r) k j := by
  have h77 : ∀ r j, v77 (ix3 0 r j) = A.vec (n r) k j := C.h77
  pointwise [k0_pay13, k0_pay12, C.h8, C.h33, C.h34, h77, C.h79, C.h84, H.h18, H.h19, onehot_row]
  exact component H hR k r j

/-- The second component: the node's vector result. -/
theorem pay17 (hR : A.Finite) {k : Fin 3} {v77 : FVec Ideal S2000x128 .f32} {v79 : FVec Ideal S2000x1 .f32}
    {v84 : FVec Ideal S1x64x128 .f32} (C : Component A n k v8 v33 v34 (fun r j => v77 (ix2 r j)) v79 v84)
    (r : Fin 2000) (j : Fin 128) :
    k0_pay17 (F := Ideal) v8 v33 v34 (k0_pay12 x19) x18 v77 v79 v84 (ix2 r j) = A.hv (n r) k j := by
  have h77 : ∀ r j, v77 (ix2 r j) = A.vec (n r) k j := C.h77
  pointwise [k0_pay17, k0_pay12, C.h8, C.h33, C.h34, h77, C.h79, C.h84, H.h18, H.h19, onehot_row]
  exact component H hR k r j

/-- The third component: the node's vector result. -/
theorem pay20 (hR : A.Finite) {k : Fin 3} {v77 : FVec Ideal S1x2000x128 .f32} {v79 : FVec Ideal S2000x1 .f32}
    {v84 : FVec Ideal S1x64x128 .f32} (C : Component A n k v8 v33 v34 (fun r j => v77 (ix3 0 r j)) v79 v84)
    (r : Fin 2000) (j : Fin 128) :
    k0_pay20 (F := Ideal) v8 v33 v34 (k0_pay12 x19) x18 v77 v79 v84 (ix2 r j) = A.hv (n r) k j := by
  have h77 : ∀ r j, v77 (ix3 0 r j) = A.vec (n r) k j := C.h77
  pointwise [k0_pay20, k0_pay12, C.h8, C.h33, C.h34, h77, C.h79, C.h84, H.h18, H.h19, onehot_row]
  exact component H hR k r j

/-! ## The body's values over its blocks -/

/-- The block's one-hot mask. -/
theorem pay21 (b : Fin 64) (r : Fin 2000) :
    k0_pay21 (F := Ideal) x0 x1 x2 x3 x4 x5 x6 x7 x8 x9 x10 x11 x12 x13 x14 x15 x16 x17 x18 x19 (ix2 b r) = if A.g (n r) = b then 1 else 0 := by
  unfold k0_pay21
  simp (disch := decide) only [View.ld_unit_lit']
  exact pay3 H b r

/-- The block's first scaled columns. -/
theorem pay22 (r : Fin 2000) (j : Fin 128) :
    k0_pay22 (F := Ideal) x0 x1 x2 x3 x4 x5 x6 x7 x8 x9 x10 x11 x12 x13 x14 x15 x16 x17 x18 x19 (ix2 r j) = A.prod (n r) (lo (by decide) j) * c3H := by
  unfold k0_pay22
  simp (disch := decide) only [View.ld_unit_lit']
  exact pay5 H r j

/-- The block's second scaled columns. -/
theorem pay23 (r : Fin 2000) (j : Fin 128) :
    k0_pay23 (F := Ideal) x0 x1 x2 x3 x4 x5 x6 x7 x8 x9 x10 x11 x12 x13 x14 x15 x16 x17 x18 x19 (ix2 r j) = A.prod (n r) (at' 128 (by decide) j) * c3H := by
  unfold k0_pay23
  simp (disch := decide) only [View.ld_unit_lit']
  exact pay6 H r j

/-- The block's features after the edge update. -/
theorem pay24 (r : Fin 2000) (j : Fin 128) :
    k0_pay24 (F := Ideal) x0 x1 x2 x3 x4 x5 x6 x7 x8 x9 x10 x11 x12 x13 x14 x15 x16 x17 x18 x19 (ix2 r j) = A.xn (n r) j := by
  unfold k0_pay24
  simp (disch := decide) only [View.ld_unit_lit']
  exact pay7 H r j

/-- The body's data of vector component 0. -/
theorem component0 :
    Component A n 0 (k0_pay21 (F := Ideal) x0 x1 x2 x3 x4 x5 x6 x7 x8 x9 x10 x11 x12 x13 x14 x15 x16 x17 x18 x19)
      (k0_pay22 (F := Ideal) x0 x1 x2 x3 x4 x5 x6 x7 x8 x9 x10 x11 x12 x13 x14 x15 x16 x17 x18 x19)
      (k0_pay23 (F := Ideal) x0 x1 x2 x3 x4 x5 x6 x7 x8 x9 x10 x11 x12 x13 x14 x15 x16 x17 x18 x19)
      (fun r j => View.ld (Val := Elt Ideal) (e' := .f32) x1 r0_11 (ix3 0 r j)) (View.ld (Val := Elt Ideal) (e' := .f32) x3 r0_12) (View.ld (Val := Elt Ideal) (e' := .f32) x6 r0_13) where
  h8 := pay21 H
  h33 := pay22 H
  h34 := pay23 H
  h77 r j := (Cert.Loads.row x1 _ (by decide) r j).trans (H.h1 _ r j)
  h79 r := (Cert.Loads.column x3 _ (by decide) r).trans (H.h3 r _)
  h84 b j := (Cert.Loads.row x6 _ (by decide) b j).trans (H.h6 _ b j)

/-- The body's data of vector component 1. -/
theorem component1 :
    Component A n 1 (k0_pay21 (F := Ideal) x0 x1 x2 x3 x4 x5 x6 x7 x8 x9 x10 x11 x12 x13 x14 x15 x16 x17 x18 x19)
      (k0_pay22 (F := Ideal) x0 x1 x2 x3 x4 x5 x6 x7 x8 x9 x10 x11 x12 x13 x14 x15 x16 x17 x18 x19)
      (k0_pay23 (F := Ideal) x0 x1 x2 x3 x4 x5 x6 x7 x8 x9 x10 x11 x12 x13 x14 x15 x16 x17 x18 x19)
      (fun r j => k0_pay26 (F := Ideal) x0 x1 x2 x3 x4 x5 x6 x7 x8 x9 x10 x11 x12 x13 x14 x15 x16 x17 x18 x19 (ix2 r j)) (View.ld (Val := Elt Ideal) (e' := .f32) x3 r0_16) (View.ld (Val := Elt Ideal) (e' := .f32) x6 r0_17) where
  h8 := pay21 H
  h33 := pay22 H
  h34 := pay23 H
  h77 r j := by unfold k0_pay26; pointwise [k0_pay16]; exact H.h1 1 r j
  h79 r := (Cert.Loads.column x3 _ (by decide) r).trans (H.h3 r _)
  h84 b j := (Cert.Loads.row x6 _ (by decide) b j).trans (H.h6 _ b j)

/-- The body's data of vector component 2. -/
theorem component2 :
    Component A n 2 (k0_pay21 (F := Ideal) x0 x1 x2 x3 x4 x5 x6 x7 x8 x9 x10 x11 x12 x13 x14 x15 x16 x17 x18 x19)
      (k0_pay22 (F := Ideal) x0 x1 x2 x3 x4 x5 x6 x7 x8 x9 x10 x11 x12 x13 x14 x15 x16 x17 x18 x19)
      (k0_pay23 (F := Ideal) x0 x1 x2 x3 x4 x5 x6 x7 x8 x9 x10 x11 x12 x13 x14 x15 x16 x17 x18 x19)
      (fun r j => View.ld (Val := Elt Ideal) (e' := .f32) x1 r0_19 (ix3 0 r j)) (View.ld (Val := Elt Ideal) (e' := .f32) x3 r0_20) (View.ld (Val := Elt Ideal) (e' := .f32) x6 r0_21) where
  h8 := pay21 H
  h33 := pay22 H
  h34 := pay23 H
  h77 r j := (Cert.Loads.row x1 _ (by decide) r j).trans (H.h1 _ r j)
  h79 r := (Cert.Loads.column x3 _ (by decide) r).trans (H.h3 r _)
  h84 b j := (Cert.Loads.row x6 _ (by decide) b j).trans (H.h6 _ b j)

/-- The block of scalar results. -/
theorem out20 (r : Fin 2000) (j : Fin 128) : out0_20 (F := Ideal) x0 x1 x2 x3 x4 x5 x6 x7 x8 x9 x10 x11 x12 x13 x14 x15 x16 x17 x18 x19 (ix2 r j) = A.hx (n r) j := by
  unfold out0_20
  frame_out
  exact pay8 H (pay21 H) (pay24 H) r j

/-- The block's sums of the scalar results over the graphs. -/
theorem out22 (b : Fin 64) (j : Fin 128) : out0_22 (F := Ideal) x0 x1 x2 x3 x4 x5 x6 x7 x8 x9 x10 x11 x12 x13 x14 x15 x16 x17 x18 x19 (ix3 0 b j)
    = ∑ r : Fin 2000, if A.g (n r) = b then A.hx (n r) j else 0 := by
  unfold out0_22
  frame_out
  exact pay9 H (pay21 H) (pay24 H) b j

/-- The block's numbers of nodes of the graphs. -/
theorem out24 (b : Fin 64) (j : Fin 8) : out0_24 (F := Ideal) x0 x1 x2 x3 x4 x5 x6 x7 x8 x9 x10 x11 x12 x13 x14 x15 x16 x17 x18 x19 (ix3 0 b j)
    = ∑ r : Fin 2000, if A.g (n r) = b then 1 else 0 := by
  unfold out0_24
  frame_out
  exact pay11 (pay21 H) b j

/-- The store of vector component 2. -/
theorem store2 (hR : A.Finite) (y : S1x2000x128.Idx) :
    k0_pay1 (F := Ideal) (k0_pay27 (F := Ideal) x0 x1 x2 x3 x4 x5 x6 x7 x8 x9 x10 x11 x12 x13 x14 x15 x16 x17 x18 x19) y
      = A.hv (n (y 1)) 2 (y 2) := by
  idx_vars y
  pointwise [k0_pay1]
  unfold k0_pay27 k0_pay25
  simp (disch := decide) only [View.ld_unit_lit']
  exact pay20 H hR (component2 H) y1 y2

/-- The store of vector component 1. -/
theorem store1 (hR : A.Finite) (y : S1x2000x128.Idx) :
    k0_pay18 (F := Ideal) (k0_pay21 (F := Ideal) x0 x1 x2 x3 x4 x5 x6 x7 x8 x9 x10 x11 x12 x13 x14 x15 x16 x17 x18 x19)
      (k0_pay22 (F := Ideal) x0 x1 x2 x3 x4 x5 x6 x7 x8 x9 x10 x11 x12 x13 x14 x15 x16 x17 x18 x19)
      (k0_pay23 (F := Ideal) x0 x1 x2 x3 x4 x5 x6 x7 x8 x9 x10 x11 x12 x13 x14 x15 x16 x17 x18 x19)
      (k0_pay25 (F := Ideal) x0 x1 x2 x3 x4 x5 x6 x7 x8 x9 x10 x11 x12 x13 x14 x15 x16 x17 x18 x19) (View.ld (Val := Elt Ideal) (e' := .f32) x18 r0_2) (k0_pay26 (F := Ideal) x0 x1 x2 x3 x4 x5 x6 x7 x8 x9 x10 x11 x12 x13 x14 x15 x16 x17 x18 x19) (View.ld (Val := Elt Ideal) (e' := .f32) x3 r0_16) (View.ld (Val := Elt Ideal) (e' := .f32) x6 r0_17) y
      = A.hv (n (y 1)) 1 (y 2) := by
  idx_vars y
  unfold k0_pay18
  unfold k0_pay25
  simp (disch := decide) only [View.ld_unit_lit']
  pointwise
  exact pay17 H hR (component1 H) y1 y2

/-- The store of vector component 0. -/
theorem store0 (hR : A.Finite) (y : S1x2000x128.Idx) :
    k0_pay14 (F := Ideal) (k0_pay21 (F := Ideal) x0 x1 x2 x3 x4 x5 x6 x7 x8 x9 x10 x11 x12 x13 x14 x15 x16 x17 x18 x19)
      (k0_pay22 (F := Ideal) x0 x1 x2 x3 x4 x5 x6 x7 x8 x9 x10 x11 x12 x13 x14 x15 x16 x17 x18 x19)
      (k0_pay23 (F := Ideal) x0 x1 x2 x3 x4 x5 x6 x7 x8 x9 x10 x11 x12 x13 x14 x15 x16 x17 x18 x19)
      (View.ld (Val := Elt Ideal) (e' := .f32) x19 r0_2) (View.ld (Val := Elt Ideal) (e' := .f32) x18 r0_2) (View.ld (Val := Elt Ideal) (e' := .f32) x1 r0_11) (View.ld (Val := Elt Ideal) (e' := .f32) x3 r0_12) (View.ld (Val := Elt Ideal) (e' := .f32) x6 r0_13) y
      = A.hv (n (y 1)) 0 (y 2) := by
  idx_vars y
  unfold k0_pay14
  simp (disch := decide) only [View.ld_unit_lit']
  pointwise
  exact pay13 H hR (component0 H) y1 y2

/-- The block of vector results. -/
theorem out21 (hR : A.Finite) (k : Fin 3) (r : Fin 2000) (j : Fin 128) : out0_21 (F := Ideal) x0 x1 x2 x3 x4 x5 x6 x7 x8 x9 x10 x11 x12 x13 x14 x15 x16 x17 x18 x19 (ix3 k r j) = A.hv (n r) k j := by
  unfold out0_21
  refine Eq.trans (b := A.hv (n r) k j) ?_ rfl
  canon_tiles x h
  · have e0 : k = 2 := Fin.ext (h0.trans (by change 2 + (x 0).val = 2; omega))
    have e1 : r = x 1 := Fin.ext h1
    have e2 : j = x 2 := Fin.ext h2
    rw [e0, e1, e2]
    exact store2 H hR x
  · have e0 : k = 1 := Fin.ext (h0.trans (by change 1 + (x 0).val = 1; omega))
    have e1 : r = x 1 := Fin.ext h1
    have e2 : j = x 2 := Fin.ext h2
    rw [e0, e1, e2]
    exact store1 H hR x
  · have e0 : k = 0 := Fin.ext (h0.trans (by change (x 0).val = 0; omega))
    have e1 : r = x 1 := Fin.ext h1
    have e2 : j = x 2 := Fin.ext h2
    rw [e0, e1, e2]
    exact store0 H hR x

/-- The store of the block's sums of vector component 2 over the graphs. -/
theorem sums2 (hR : A.Finite) (y : S1x64x128.Idx) (b : Fin 64) (hb : b = y 1) :
    k0_pay2 (F := Ideal) (k0_pay21 (F := Ideal) x0 x1 x2 x3 x4 x5 x6 x7 x8 x9 x10 x11 x12 x13 x14 x15 x16 x17 x18 x19) (k0_pay27 (F := Ideal) x0 x1 x2 x3 x4 x5 x6 x7 x8 x9 x10 x11 x12 x13 x14 x15 x16 x17 x18 x19) y
      = ∑ r : Fin 2000, if A.g (n r) = b then A.hv (n r) 2 (y 2) else 0 := by
  idx_vars y
  obtain rfl : b = y1 := hb
  have hp : ∀ r j, (k0_pay27 (F := Ideal) x0 x1 x2 x3 x4 x5 x6 x7 x8 x9 x10 x11 x12 x13 x14 x15 x16 x17 x18 x19) (ix2 r j) = A.hv (n r) 2 j := by
    unfold k0_pay27 k0_pay25
    simp (disch := decide) only [View.ld_unit_lit']
    exact pay20 H hR (component2 H)
  unfold k0_pay2
  pointwise [pay21 H, hp, onehot_mul]

/-- The store of the block's sums of vector component 1 over the graphs. -/
theorem sums1 (hR : A.Finite) (y : S1x64x128.Idx) (b : Fin 64) (hb : b = y 1) :
    k0_pay19 (F := Ideal) (k0_pay21 (F := Ideal) x0 x1 x2 x3 x4 x5 x6 x7 x8 x9 x10 x11 x12 x13 x14 x15 x16 x17 x18 x19)
      (k0_pay22 (F := Ideal) x0 x1 x2 x3 x4 x5 x6 x7 x8 x9 x10 x11 x12 x13 x14 x15 x16 x17 x18 x19)
      (k0_pay23 (F := Ideal) x0 x1 x2 x3 x4 x5 x6 x7 x8 x9 x10 x11 x12 x13 x14 x15 x16 x17 x18 x19)
      (k0_pay25 (F := Ideal) x0 x1 x2 x3 x4 x5 x6 x7 x8 x9 x10 x11 x12 x13 x14 x15 x16 x17 x18 x19) (View.ld (Val := Elt Ideal) (e' := .f32) x18 r0_2) (k0_pay26 (F := Ideal) x0 x1 x2 x3 x4 x5 x6 x7 x8 x9 x10 x11 x12 x13 x14 x15 x16 x17 x18 x19) (View.ld (Val := Elt Ideal) (e' := .f32) x3 r0_16) (View.ld (Val := Elt Ideal) (e' := .f32) x6 r0_17) y
      = ∑ r : Fin 2000, if A.g (n r) = b then A.hv (n r) 1 (y 2) else 0 := by
  idx_vars y
  obtain rfl : b = y1 := hb
  have hp := pay17 H hR (component1 H)
  unfold k0_pay19 k0_pay25
  simp (disch := decide) only [View.ld_unit_lit']
  pointwise [pay21 H, hp, onehot_mul]

/-- The store of the block's sums of vector component 0 over the graphs. -/
theorem sums0 (hR : A.Finite) (y : S1x64x128.Idx) (b : Fin 64) (hb : b = y 1) :
    k0_pay15 (F := Ideal) (k0_pay21 (F := Ideal) x0 x1 x2 x3 x4 x5 x6 x7 x8 x9 x10 x11 x12 x13 x14 x15 x16 x17 x18 x19)
      (k0_pay22 (F := Ideal) x0 x1 x2 x3 x4 x5 x6 x7 x8 x9 x10 x11 x12 x13 x14 x15 x16 x17 x18 x19)
      (k0_pay23 (F := Ideal) x0 x1 x2 x3 x4 x5 x6 x7 x8 x9 x10 x11 x12 x13 x14 x15 x16 x17 x18 x19)
      (View.ld (Val := Elt Ideal) (e' := .f32) x19 r0_2) (View.ld (Val := Elt Ideal) (e' := .f32) x18 r0_2) (View.ld (Val := Elt Ideal) (e' := .f32) x1 r0_11) (View.ld (Val := Elt Ideal) (e' := .f32) x3 r0_12) (View.ld (Val := Elt Ideal) (e' := .f32) x6 r0_13) y
      = ∑ r : Fin 2000, if A.g (n r) = b then A.hv (n r) 0 (y 2) else 0 := by
  idx_vars y
  obtain rfl : b = y1 := hb
  have hp := pay13 H hR (component0 H)
  unfold k0_pay15
  simp (disch := decide) only [View.ld_unit_lit']
  pointwise [pay21 H, hp, onehot_mul]

/-- The block's sums of the vector results over the graphs, component `k` at columns `128 k` and up. -/
theorem out23 (hR : A.Finite) (k : Fin 3) (b : Fin 64) (j : Fin 128) (i : Fin 384) (hi : i.val = 128 * k.val + j.val) :
    out0_23 (F := Ideal) x0 x1 x2 x3 x4 x5 x6 x7 x8 x9 x10 x11 x12 x13 x14 x15 x16 x17 x18 x19 (ix3 0 b i) = ∑ r : Fin 2000, if A.g (n r) = b then A.hv (n r) k j else 0 := by
  unfold out0_23
  refine Eq.trans (b := ∑ r : Fin 2000, if A.g (n r) = b then A.hv (n r) k j else 0) ?_ rfl
  canon_tiles x h
  · have h2' : i.val = 256 + (x 2).val := h2
    have hx : (x 2).val < 128 := x2_lt
    have e0 : k = 2 := Fin.ext (by change k.val = 2; omega)
    subst e0
    have e1 : b = x 1 := Fin.ext h1
    have e2 : j = x 2 := Fin.ext (by change i.val = 128 * 2 + j.val at hi; omega)
    rw [e2]
    exact sums2 H hR x b e1
  · have h2' : i.val = 128 + (x 2).val := h2
    have hx : (x 2).val < 128 := x2_lt
    have e0 : k = 1 := Fin.ext (by change k.val = 1; omega)
    subst e0
    have e1 : b = x 1 := Fin.ext h1
    have e2 : j = x 2 := Fin.ext (by change i.val = 128 * 1 + j.val at hi; omega)
    rw [e2]
    exact sums1 H hR x b e1
  · have h2' : i.val = (x 2).val := h2
    have hx : (x 2).val < 128 := x2_lt
    have e0 : k = 0 := Fin.ext (by change k.val = 0; omega)
    subst e0
    have e1 : b = x 1 := Fin.ext h1
    have e2 : j = x 2 := Fin.ext (by change i.val = 128 * 0 + j.val at hi; omega)
    rw [e2]
    exact sums0 H hR x b e1

end Cert.KernelIdeal.Node
-- ==== Proof.KernelIdeal.Graph.lean ====
/- The graph body's payloads at an index: over the blocks' sums of the node results, the body stores the layer's plain
   mathematics (`Proof/Spec.lean`) of the graphs. -/
module

public import proofs.«01_k».proof.Proof.KernelIdeal.Region1
public import proofs.«01_k».proof.Proof.Arith
public import proofs.«01_k».proof.Proof.Loads
public import Idealize.ShloMosaic.Lib.Pointwise
public import Idealize.ShloMosaic.Lib.Pipeline.ValueKit

@[expose] public section

set_option maxRecDepth 16384

noncomputable section

namespace Cert.KernelIdeal.Graph

open Cert.KernelIdeal Cert.KernelIdeal.Gen Cert.KernelIdeal.Launched Cert.Spec Idealize.ShloMosaic

/-- The eighteen input blocks hold the blocks' partial sums, which add up to the graphs' sums, and the weights. -/
structure Holds (A : Inputs)
    (x0 : FVec Ideal S50x64x128 .f32) (x1 : FVec Ideal S50x64x384 .f32) (x2 : FVec Ideal S50x64x8 .f32)
    (x3 : FVec Ideal S64x128 .f32) (x4 : FVec Ideal S3x64x128 .f32) (x5 : FVec Ideal S128x128 .f32)
    (x6 : FVec Ideal S128x128 .f32) (x7 : FVec Ideal S1x128 .f32) (x8 : FVec Ideal S128x128 .f32)
    (x9 : FVec Ideal S1x128 .f32) (x10 : FVec Ideal S128x128 .f32) (x11 : FVec Ideal S128x256 .f32)
    (x12 : FVec Ideal S128x128 .f32) (x13 : FVec Ideal S128x128 .f32) (x14 : FVec Ideal S1x128 .f32)
    (x15 : FVec Ideal S128x384 .f32) (x16 : FVec Ideal S1x384 .f32) (x17 : FVec Ideal S128x1 .f32) : Prop where
  h0 : ∀ b j, ∑ t : Fin 50, x0 (ix3 t b j) = A.sumx b j
  h1 : ∀ b k j (i : Fin 384), i.val = 128 * k.val + j.val → ∑ t : Fin 50, x1 (ix3 t b i) = A.sumv b k j
  h2 : ∀ b, ∑ t : Fin 50, x2 (ix3 t b 0) = A.cnt b
  h3 : ∀ b j, x3 (ix2 b j) = A.sl b j
  h4 : ∀ k b j, x4 (ix3 k b j) = A.vl b k j
  h5 : ∀ i j, x5 (ix2 i j) = A.Wsg1 (lo (by decide) i) j
  h6 : ∀ i j, x6 (ix2 i j) = A.Wsg1 (at' 128 (by decide) i) j
  h7 : ∀ j, x7 (ix2 0 j) = A.bsg1 j
  h8 : ∀ i j, x8 (ix2 i j) = A.Wsg2 i j
  h9 : ∀ j, x9 (ix2 0 j) = A.bsg2 j
  h10 : ∀ i j, x10 (ix2 i j) = A.Wvg i j
  h11 : ∀ i j, x11 (ix2 i j) = A.Wvlp i j
  h12 : ∀ i j, x12 (ix2 i j) = A.Wslp1 (lo (by decide) i) j
  h13 : ∀ i j, x13 (ix2 i j) = A.Wslp1 (at' 128 (by decide) i) j
  h14 : ∀ j, x14 (ix2 0 j) = A.bslp1 j
  h15 : ∀ i j, x15 (ix2 i j) = A.Wslp2 i j
  h16 : ∀ j, x16 (ix2 0 j) = A.bslp2 j
  h17 : ∀ i j, x17 (ix2 i j) = A.Wl i j

variable {A : Inputs}
    {x0 : FVec Ideal S50x64x128 .f32} {x1 : FVec Ideal S50x64x384 .f32} {x2 : FVec Ideal S50x64x8 .f32}
    {x3 : FVec Ideal S64x128 .f32} {x4 : FVec Ideal S3x64x128 .f32} {x5 : FVec Ideal S128x128 .f32}
    {x6 : FVec Ideal S128x128 .f32} {x7 : FVec Ideal S1x128 .f32} {x8 : FVec Ideal S128x128 .f32}
    {x9 : FVec Ideal S1x128 .f32} {x10 : FVec Ideal S128x128 .f32} {x11 : FVec Ideal S128x256 .f32}
    {x12 : FVec Ideal S128x128 .f32} {x13 : FVec Ideal S128x128 .f32} {x14 : FVec Ideal S1x128 .f32}
    {x15 : FVec Ideal S128x384 .f32} {x16 : FVec Ideal S1x384 .f32} {x17 : FVec Ideal S128x1 .f32}
  (H : Holds A x0 x1 x2 x3 x4 x5 x6 x7 x8 x9 x10 x11 x12 x13 x14 x15 x16 x17)
include H

/-- The graph's reciprocal count. -/
theorem pay3 (b : Fin 64) : k1_pay3 (F := Ideal) x2 (ix2 b 0) = Ideal.div 1 (max (A.cnt b) 1) := by
  pointwise [k1_pay3, H.h2]

/-- The graph scalars' hidden layer. -/
theorem pay4 (b : Fin 64) (j : Fin 128) : k1_pay4 (F := Ideal) x0 x2 x3 x5 x6 x7 (ix2 b j) = A.gh b j := by
  pointwise [k1_pay4, pay3 H, H.h0, H.h3, H.h5, H.h6, H.h7, A.mean]
  rfl

/-- The updated graph scalars. -/
theorem pay31 (b : Fin 64) (j : Fin 128) : (k1_pay31 (F := Ideal) x0 x1 x2 x3 x4 x5 x6 x7 x8 x9 x10 x11 x12 x13 x14 x15 x16 x17) (ix2 b j) = A.sl1 b j := by
  unfold k1_pay31
  simp (disch := decide) only [View.ld_unit_lit']
  pointwise [k1_pay5, pay4 H, H.h3, H.h8, H.h9]
  rfl

/-- The graphs' reciprocal counts. -/
theorem pay30 (b : Fin 64) : (k1_pay30 (F := Ideal) x0 x1 x2 x3 x4 x5 x6 x7 x8 x9 x10 x11 x12 x13 x14 x15 x16 x17) (ix2 b 0) = Ideal.div 1 (max (A.cnt b) 1) := by
  unfold k1_pay30
  simp (disch := decide) only [View.ld_unit_lit']
  exact pay3 H b

/-- The graphs' sums of the node vectors, component `k` at columns `128 k` and up. -/
theorem pay29 (b : Fin 64) (i : Fin 384) (k : Fin 3) (j : Fin 128) (hi : i.val = 128 * k.val + j.val) :
    (k1_pay29 (F := Ideal) x0 x1 x2 x3 x4 x5 x6 x7 x8 x9 x10 x11 x12 x13 x14 x15 x16 x17) (ix2 b i) = A.sumv b k j := by
  unfold k1_pay29
  simp (disch := decide) only [View.ld_unit_lit']
  pointwise [k1_pay2]
  exact H.h1 b k j i hi

/-- The sums' columns of component 0. -/
theorem column0 (b : Fin 64) (j : Fin 128) (h : j.val < 384) : (k1_pay29 (F := Ideal) x0 x1 x2 x3 x4 x5 x6 x7 x8 x9 x10 x11 x12 x13 x14 x15 x16 x17) (ix2 b ⟨j.val, h⟩) = A.sumv b 0 j :=
  pay29 H b _ 0 j (by change j.val = 128 * 0 + j.val; omega)

/-- The updated graph vectors, component 0. -/
theorem pay6 (b : Fin 64) (j : Fin 128) :
    k1_pay6 (F := Ideal) (k1_pay29 (F := Ideal) x0 x1 x2 x3 x4 x5 x6 x7 x8 x9 x10 x11 x12 x13 x14 x15 x16 x17)
      (k1_pay30 (F := Ideal) x0 x1 x2 x3 x4 x5 x6 x7 x8 x9 x10 x11 x12 x13 x14 x15 x16 x17)
      x10 (View.ld (Val := Elt Ideal) (e' := .f32) x4 r1_7) (ix2 b j) = A.vl1 b 0 j := by
  pointwise [k1_pay6, column0 H, pay30 H, H.h4, H.h10, A.mean]
  rfl

/-- Their projection. -/
theorem pay7 (b : Fin 64) (i : Fin 256) :
    k1_pay7 (F := Ideal) (k1_pay29 (F := Ideal) x0 x1 x2 x3 x4 x5 x6 x7 x8 x9 x10 x11 x12 x13 x14 x15 x16 x17)
      (k1_pay30 (F := Ideal) x0 x1 x2 x3 x4 x5 x6 x7 x8 x9 x10 x11 x12 x13 x14 x15 x16 x17)
      x10 x11 (View.ld (Val := Elt Ideal) (e' := .f32) x4 r1_7) (ix2 b i) = A.vh b 0 i := by
  pointwise [k1_pay7, pay6 H, H.h11]
  rfl

/-- The sums' columns of component 1. -/
theorem column1 (b : Fin 64) (j : Fin 128) (h : 128 + j.val < 384) : (k1_pay29 (F := Ideal) x0 x1 x2 x3 x4 x5 x6 x7 x8 x9 x10 x11 x12 x13 x14 x15 x16 x17) (ix2 b ⟨128 + j.val, h⟩) = A.sumv b 1 j :=
  pay29 H b _ 1 j (by change 128 + j.val = 128 * 1 + j.val; omega)

/-- The updated graph vectors, component 1. -/
theorem pay9 (b : Fin 64) (j : Fin 128) :
    k1_pay9 (F := Ideal) (k1_pay29 (F := Ideal) x0 x1 x2 x3 x4 x5 x6 x7 x8 x9 x10 x11 x12 x13 x14 x15 x16 x17)
      (k1_pay30 (F := Ideal) x0 x1 x2 x3 x4 x5 x6 x7 x8 x9 x10 x11 x12 x13 x14 x15 x16 x17)
      x10 (View.ld (Val := Elt Ideal) (e' := .f32) x4 r1_8) (ix2 b j) = A.vl1 b 1 j := by
  pointwise [k1_pay9, column1 H, pay30 H, H.h4, H.h10, A.mean]
  rfl

/-- Their projection. -/
theorem pay10 (b : Fin 64) (i : Fin 256) :
    k1_pay10 (F := Ideal) (k1_pay29 (F := Ideal) x0 x1 x2 x3 x4 x5 x6 x7 x8 x9 x10 x11 x12 x13 x14 x15 x16 x17)
      (k1_pay30 (F := Ideal) x0 x1 x2 x3 x4 x5 x6 x7 x8 x9 x10 x11 x12 x13 x14 x15 x16 x17)
      x10 x11 (View.ld (Val := Elt Ideal) (e' := .f32) x4 r1_8) (ix2 b i) = A.vh b 1 i := by
  pointwise [k1_pay10, pay9 H, H.h11]
  rfl

/-- The sums' columns of component 2. -/
theorem column2 (b : Fin 64) (j : Fin 128) (h : 256 + j.val < 384) : (k1_pay29 (F := Ideal) x0 x1 x2 x3 x4 x5 x6 x7 x8 x9 x10 x11 x12 x13 x14 x15 x16 x17) (ix2 b ⟨256 + j.val, h⟩) = A.sumv b 2 j :=
  pay29 H b _ 2 j (by change 256 + j.val = 128 * 2 + j.val; omega)

/-- The updated graph vectors, component 2. -/
theorem pay13 (b : Fin 64) (j : Fin 128) :
    k1_pay13 (F := Ideal) (k1_pay29 (F := Ideal) x0 x1 x2 x3 x4 x5 x6 x7 x8 x9 x10 x11 x12 x13 x14 x15 x16 x17)
      (k1_pay30 (F := Ideal) x0 x1 x2 x3 x4 x5 x6 x7 x8 x9 x10 x11 x12 x13 x14 x15 x16 x17)
      x10 (View.ld (Val := Elt Ideal) (e' := .f32) x4 r1_9) (ix2 b j) = A.vl1 b 2 j := by
  pointwise [k1_pay13, column2 H, pay30 H, H.h4, H.h10, A.mean]
  rfl

/-- Their projection. -/
theorem pay14 (b : Fin 64) (i : Fin 256) :
    k1_pay14 (F := Ideal) (k1_pay29 (F := Ideal) x0 x1 x2 x3 x4 x5 x6 x7 x8 x9 x10 x11 x12 x13 x14 x15 x16 x17)
      (k1_pay30 (F := Ideal) x0 x1 x2 x3 x4 x5 x6 x7 x8 x9 x10 x11 x12 x13 x14 x15 x16 x17)
      x10 x11 (View.ld (Val := Elt Ideal) (e' := .f32) x4 r1_9) (ix2 b i) = A.vh b 2 i := by
  pointwise [k1_pay14, pay13 H, H.h11]
  rfl

/-- The squares of the projection's second half, the first two components. -/
theorem pay36 (b : Fin 64) (j : Fin 128) : (k1_pay36 (F := Ideal) x0 x1 x2 x3 x4 x5 x6 x7 x8 x9 x10 x11 x12 x13 x14 x15 x16 x17) (ix2 b j)
    = A.vh b 0 (at' 128 (by decide) j) * A.vh b 0 (at' 128 (by decide) j)
      + A.vh b 1 (at' 128 (by decide) j) * A.vh b 1 (at' 128 (by decide) j) := by
  unfold k1_pay36
  simp (disch := decide) only [View.ld_unit_lit']
  pointwise [k1_pay12, pay7 H, pay10 H]

/-- The gates. -/
theorem pay16 (b : Fin 64) (i : Fin 384) :
    k1_pay16 (F := Ideal) (k1_pay29 (F := Ideal) x0 x1 x2 x3 x4 x5 x6 x7 x8 x9 x10 x11 x12 x13 x14 x15 x16 x17)
      (k1_pay30 (F := Ideal) x0 x1 x2 x3 x4 x5 x6 x7 x8 x9 x10 x11 x12 x13 x14 x15 x16 x17)
      (k1_pay31 (F := Ideal) x0 x1 x2 x3 x4 x5 x6 x7 x8 x9 x10 x11 x12 x13 x14 x15 x16 x17) x10 x11
      (k1_pay36 (F := Ideal) x0 x1 x2 x3 x4 x5 x6 x7 x8 x9 x10 x11 x12 x13 x14 x15 x16 x17)
      (View.ld (Val := Elt Ideal) (e' := .f32) x4 r1_9) x12 x13 x14 x15 x16 (ix2 b i) = A.sh b i := by
  have e : ∀ j, Ideal.sqrt (A.vh b 0 (at' 128 (by decide) j) * A.vh b 0 (at' 128 (by decide) j)
      + A.vh b 1 (at' 128 (by decide) j) * A.vh b 1 (at' 128 (by decide) j)
      + A.vh b 2 (at' 128 (by decide) j) * A.vh b 2 (at' 128 (by decide) j) + cE) = A.vn b j := fun j => by
    unfold Inputs.vn
    rw [Fin.sum_univ_three]
  pointwise [k1_pay16, pay14 H, pay36 H, pay31 H, H.h12, H.h13, H.h14, H.h15, H.h16]
  simp only [Inputs.sh, Inputs.sp, ← e]
  rfl

/-- The updated graph vectors, component 0, as the stores name them. -/
theorem pay32 (b : Fin 64) (j : Fin 128) : (k1_pay32 (F := Ideal) x0 x1 x2 x3 x4 x5 x6 x7 x8 x9 x10 x11 x12 x13 x14 x15 x16 x17) (ix2 b j) = A.vl1 b 0 j := by
  unfold k1_pay32
  simp (disch := decide) only [View.ld_unit_lit']
  exact pay6 H b j

/-- The first half of their projection. -/
theorem pay33 (b : Fin 64) (j : Fin 128) : (k1_pay33 (F := Ideal) x0 x1 x2 x3 x4 x5 x6 x7 x8 x9 x10 x11 x12 x13 x14 x15 x16 x17) (ix2 b j) = A.vh b 0 (lo (by decide) j) := by
  unfold k1_pay33
  simp (disch := decide) only [View.ld_unit_lit']
  pointwise [k1_pay8, pay7 H]

/-- The updated graph vectors, component 1, as the stores name them. -/
theorem pay34 (b : Fin 64) (j : Fin 128) : (k1_pay34 (F := Ideal) x0 x1 x2 x3 x4 x5 x6 x7 x8 x9 x10 x11 x12 x13 x14 x15 x16 x17) (ix2 b j) = A.vl1 b 1 j := by
  unfold k1_pay34
  simp (disch := decide) only [View.ld_unit_lit']
  exact pay9 H b j

/-- The first half of their projection. -/
theorem pay35 (b : Fin 64) (j : Fin 128) : (k1_pay35 (F := Ideal) x0 x1 x2 x3 x4 x5 x6 x7 x8 x9 x10 x11 x12 x13 x14 x15 x16 x17) (ix2 b j) = A.vh b 1 (lo (by decide) j) := by
  unfold k1_pay35
  simp (disch := decide) only [View.ld_unit_lit']
  pointwise [k1_pay11, pay10 H]

/-- The updated graph vectors, component 2, as the stores name them. -/
theorem pay37 (b : Fin 64) (j : Fin 128) : (k1_pay37 (F := Ideal) x0 x1 x2 x3 x4 x5 x6 x7 x8 x9 x10 x11 x12 x13 x14 x15 x16 x17) (ix2 b j) = A.vl1 b 2 j := by
  unfold k1_pay37
  simp (disch := decide) only [View.ld_unit_lit']
  exact pay13 H b j

/-- The first half of their projection. -/
theorem pay38 (b : Fin 64) (j : Fin 128) : (k1_pay38 (F := Ideal) x0 x1 x2 x3 x4 x5 x6 x7 x8 x9 x10 x11 x12 x13 x14 x15 x16 x17) (ix2 b j) = A.vh b 2 (lo (by decide) j) := by
  unfold k1_pay38
  simp (disch := decide) only [View.ld_unit_lit']
  pointwise [k1_pay15, pay14 H]

/-- The gates of the vectors. -/
theorem pay39 (b : Fin 64) (j : Fin 128) : (k1_pay39 (F := Ideal) x0 x1 x2 x3 x4 x5 x6 x7 x8 x9 x10 x11 x12 x13 x14 x15 x16 x17) (ix2 b j) = A.sh b (lo (by decide) j) := by
  unfold k1_pay39
  simp (disch := decide) only [View.ld_unit_lit']
  pointwise [k1_pay17, pay16 H]

/-- The graphs' vector results, component 0. -/
theorem pay20 (b : Fin 64) (j : Fin 128) :
    k1_pay20 (F := Ideal) (k1_pay32 (F := Ideal) x0 x1 x2 x3 x4 x5 x6 x7 x8 x9 x10 x11 x12 x13 x14 x15 x16 x17)
      (k1_pay33 (F := Ideal) x0 x1 x2 x3 x4 x5 x6 x7 x8 x9 x10 x11 x12 x13 x14 x15 x16 x17)
      (k1_pay39 (F := Ideal) x0 x1 x2 x3 x4 x5 x6 x7 x8 x9 x10 x11 x12 x13 x14 x15 x16 x17) (ix2 b j) = A.vlo b 0 j := by
  pointwise [k1_pay20, pay32 H, pay33 H, pay39 H]
  rfl

/-- Their store. -/
theorem store0 (y : S1x64x128.Idx) :
    k1_pay21 (F := Ideal) (k1_pay32 (F := Ideal) x0 x1 x2 x3 x4 x5 x6 x7 x8 x9 x10 x11 x12 x13 x14 x15 x16 x17)
      (k1_pay33 (F := Ideal) x0 x1 x2 x3 x4 x5 x6 x7 x8 x9 x10 x11 x12 x13 x14 x15 x16 x17)
      (k1_pay39 (F := Ideal) x0 x1 x2 x3 x4 x5 x6 x7 x8 x9 x10 x11 x12 x13 x14 x15 x16 x17) y = A.vlo (y 1) 0 (y 2) := by
  idx_vars y
  pointwise [k1_pay21, pay20 H]

/-- The store of the lattice update, component 0. -/
theorem lattice0 (y : S1x64x1.Idx) :
    k1_pay22 (F := Ideal) (k1_pay32 (F := Ideal) x0 x1 x2 x3 x4 x5 x6 x7 x8 x9 x10 x11 x12 x13 x14 x15 x16 x17)
      (k1_pay33 (F := Ideal) x0 x1 x2 x3 x4 x5 x6 x7 x8 x9 x10 x11 x12 x13 x14 x15 x16 x17)
      (k1_pay39 (F := Ideal) x0 x1 x2 x3 x4 x5 x6 x7 x8 x9 x10 x11 x12 x13 x14 x15 x16 x17) (View.ld (Val := Elt Ideal) (e' := .f32) x17 r1_12) y = A.ld (y 1) 0 (y 2) := by
  idx_vars y
  simp (disch := decide) only [View.ld_unit_lit']
  pointwise [k1_pay22, pay20 H, H.h17]
  obtain rfl : y2 = 0 := Subsingleton.elim _ _
  rfl

/-- The graphs' vector results, component 1. -/
theorem pay23 (b : Fin 64) (j : Fin 128) :
    k1_pay23 (F := Ideal) (k1_pay34 (F := Ideal) x0 x1 x2 x3 x4 x5 x6 x7 x8 x9 x10 x11 x12 x13 x14 x15 x16 x17)
      (k1_pay35 (F := Ideal) x0 x1 x2 x3 x4 x5 x6 x7 x8 x9 x10 x11 x12 x13 x14 x15 x16 x17)
      (k1_pay39 (F := Ideal) x0 x1 x2 x3 x4 x5 x6 x7 x8 x9 x10 x11 x12 x13 x14 x15 x16 x17) (ix2 b j) = A.vlo b 1 j := by
  pointwise [k1_pay23, pay34 H, pay35 H, pay39 H]
  rfl

/-- Their store. -/
theorem store1 (y : S1x64x128.Idx) :
    k1_pay24 (F := Ideal) (k1_pay34 (F := Ideal) x0 x1 x2 x3 x4 x5 x6 x7 x8 x9 x10 x11 x12 x13 x14 x15 x16 x17)
      (k1_pay35 (F := Ideal) x0 x1 x2 x3 x4 x5 x6 x7 x8 x9 x10 x11 x12 x13 x14 x15 x16 x17)
      (k1_pay39 (F := Ideal) x0 x1 x2 x3 x4 x5 x6 x7 x8 x9 x10 x11 x12 x13 x14 x15 x16 x17) y = A.vlo (y 1) 1 (y 2) := by
  idx_vars y
  pointwise [k1_pay24, pay23 H]

/-- The store of the lattice update, component 1. -/
theorem lattice1 (y : S1x64x1.Idx) :
    k1_pay25 (F := Ideal) (k1_pay34 (F := Ideal) x0 x1 x2 x3 x4 x5 x6 x7 x8 x9 x10 x11 x12 x13 x14 x15 x16 x17)
      (k1_pay35 (F := Ideal) x0 x1 x2 x3 x4 x5 x6 x7 x8 x9 x10 x11 x12 x13 x14 x15 x16 x17)
      (k1_pay39 (F := Ideal) x0 x1 x2 x3 x4 x5 x6 x7 x8 x9 x10 x11 x12 x13 x14 x15 x16 x17) (View.ld (Val := Elt Ideal) (e' := .f32) x17 r1_12) y = A.ld (y 1) 1 (y 2) := by
  idx_vars y
  simp (disch := decide) only [View.ld_unit_lit']
  pointwise [k1_pay25, pay23 H, H.h17]
  obtain rfl : y2 = 0 := Subsingleton.elim _ _
  rfl

/-- The graphs' vector results, component 2. -/
theorem pay26 (b : Fin 64) (j : Fin 128) :
    k1_pay26 (F := Ideal) (k1_pay37 (F := Ideal) x0 x1 x2 x3 x4 x5 x6 x7 x8 x9 x10 x11 x12 x13 x14 x15 x16 x17)
      (k1_pay38 (F := Ideal) x0 x1 x2 x3 x4 x5 x6 x7 x8 x9 x10 x11 x12 x13 x14 x15 x16 x17)
      (k1_pay39 (F := Ideal) x0 x1 x2 x3 x4 x5 x6 x7 x8 x9 x10 x11 x12 x13 x14 x15 x16 x17) (ix2 b j) = A.vlo b 2 j := by
  pointwise [k1_pay26, pay37 H, pay38 H, pay39 H]
  rfl

/-- Their store. -/
theorem store2 (y : S1x64x128.Idx) :
    k1_pay27 (F := Ideal) (k1_pay37 (F := Ideal) x0 x1 x2 x3 x4 x5 x6 x7 x8 x9 x10 x11 x12 x13 x14 x15 x16 x17)
      (k1_pay38 (F := Ideal) x0 x1 x2 x3 x4 x5 x6 x7 x8 x9 x10 x11 x12 x13 x14 x15 x16 x17)
      (k1_pay39 (F := Ideal) x0 x1 x2 x3 x4 x5 x6 x7 x8 x9 x10 x11 x12 x13 x14 x15 x16 x17) y = A.vlo (y 1) 2 (y 2) := by
  idx_vars y
  pointwise [k1_pay27, pay26 H]

/-- The store of the lattice update, component 2. -/
theorem lattice2 (y : S1x64x1.Idx) :
    k1_pay1 (F := Ideal) (k1_pay28 (F := Ideal) (k1_pay37 (F := Ideal) x0 x1 x2 x3 x4 x5 x6 x7 x8 x9 x10 x11 x12 x13 x14 x15 x16 x17)
      (k1_pay38 (F := Ideal) x0 x1 x2 x3 x4 x5 x6 x7 x8 x9 x10 x11 x12 x13 x14 x15 x16 x17)
      (k1_pay39 (F := Ideal) x0 x1 x2 x3 x4 x5 x6 x7 x8 x9 x10 x11 x12 x13 x14 x15 x16 x17) (View.ld (Val := Elt Ideal) (e' := .f32) x17 r1_12)) y = A.ld (y 1) 2 (y 2) := by
  idx_vars y
  simp (disch := decide) only [View.ld_unit_lit']
  pointwise [k1_pay1, k1_pay28, pay26 H, H.h17]
  obtain rfl : y2 = 0 := Subsingleton.elim _ _
  rfl

/-- The block of the graphs' scalar results. -/
theorem out18 (b : Fin 64) (j : Fin 128) : out1_18 (F := Ideal) x0 x1 x2 x3 x4 x5 x6 x7 x8 x9 x10 x11 x12 x13 x14 x15 x16 x17 (ix2 b j) = A.slo b j := by
  unfold out1_18
  frame_out
  pointwise [k1_pay19, k1_pay18, pay16 H, pay31 H]
  rfl

/-- The block of the graphs' vector results. -/
theorem out19 (k : Fin 3) (b : Fin 64) (j : Fin 128) : out1_19 (F := Ideal) x0 x1 x2 x3 x4 x5 x6 x7 x8 x9 x10 x11 x12 x13 x14 x15 x16 x17 (ix3 k b j) = A.vlo b k j := by
  unfold out1_19
  refine Eq.trans (b := A.vlo b k j) ?_ rfl
  canon_tiles x h
  · have e0 : k = 2 := Fin.ext (h0.trans (by change 2 + (x 0).val = 2; omega))
    have e1 : b = x 1 := Fin.ext h1
    have e2 : j = x 2 := Fin.ext h2
    rw [e0, e1, e2]
    exact store2 H x
  · have e0 : k = 1 := Fin.ext (h0.trans (by change 1 + (x 0).val = 1; omega))
    have e1 : b = x 1 := Fin.ext h1
    have e2 : j = x 2 := Fin.ext h2
    rw [e0, e1, e2]
    exact store1 H x
  · have e0 : k = 0 := Fin.ext (h0.trans (by change (x 0).val = 0; omega))
    have e1 : b = x 1 := Fin.ext h1
    have e2 : j = x 2 := Fin.ext h2
    rw [e0, e1, e2]
    exact store0 H x

/-- The block of the graphs' lattice updates. -/
theorem out20 (k : Fin 3) (b : Fin 64) (j : Fin 1) : out1_20 (F := Ideal) x0 x1 x2 x3 x4 x5 x6 x7 x8 x9 x10 x11 x12 x13 x14 x15 x16 x17 (ix3 k b j) = A.ld b k j := by
  unfold out1_20
  refine Eq.trans (b := A.ld b k j) ?_ rfl
  canon_tiles x h
  · have e0 : k = 2 := Fin.ext (h0.trans (by change 2 + (x 0).val = 2; omega))
    have e1 : b = x 1 := Fin.ext h1
    have e2 : j = x 2 := Fin.ext h2
    rw [e0, e1, e2]
    exact lattice2 H x
  · have e0 : k = 1 := Fin.ext (h0.trans (by change 1 + (x 0).val = 1; omega))
    have e1 : b = x 1 := Fin.ext h1
    have e2 : j = x 2 := Fin.ext h2
    rw [e0, e1, e2]
    exact lattice1 H x
  · have e0 : k = 0 := Fin.ext (h0.trans (by change (x 0).val = 0; omega))
    have e1 : b = x 1 := Fin.ext h1
    have e2 : j = x 2 := Fin.ext h2
    rw [e0, e1, e2]
    exact lattice0 H x

end Cert.KernelIdeal.Graph
-- ==== Proof.KernelIdeal.Entry.lean ====
/- What the two regions' input blocks hold, from the launch memory: each window's block read as its array's rows, and the
   arrays the host prepares read as what it computed. -/
module

public import proofs.«01_k».proof.Proof.KernelIdeal.Launched
public import proofs.«01_k».proof.Proof.KernelIdeal.Node
public import proofs.«01_k».proof.Proof.KernelIdeal.Graph
public import Idealize.ShloMosaic.Lib.Claim

@[expose] public section

set_option maxRecDepth 16384

noncomputable section

namespace Cert.KernelIdeal.Entry

open Cert.KernelIdeal Cert.KernelIdeal.Gen Cert.KernelIdeal.Launched Cert.Spec Idealize.ShloMosaic Idealize.ShloMosaic.TcCoe

variable (V : (c : Dev nD) → (b : Ref sig .tc) → Buf (Elt Ideal) ((c : Thread nD τ).loc b)) (c : Dev nD)

/-- Where each window of region 0 lies at a point: the node blocks at the point's number, the rest whole. -/
theorem idx0 : ∀ t : Fin cfg0.N, win0_0.index t = ![t.val, 0] ∧ win0_1.index t = ![0, t.val, 0] ∧ win0_2.index t = ![t.val, 0]
    ∧ win0_3.index t = ![t.val, 0] ∧ win0_4.index t = ![t.val, 0, 0] ∧ win0_5.index t = ![0, 0] ∧ win0_6.index t = ![0, 0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0] ∧ win0_18.index t = ![0, 0]
    ∧ win0_19.index t = ![0, 0] ∧ win0_20.index t = ![t.val, 0] ∧ win0_21.index t = ![0, t.val, 0]
    ∧ win0_22.index t = ![t.val, 0, 0] ∧ win0_23.index t = ![t.val, 0, 0] ∧ win0_24.index t = ![t.val, 0, 0] :=
  (by decide +kernel : ∀ t : Fin grid0.N, _)

theorem N0 : cfg0.N = 50 := by decide +kernel

/-- The node that row `r` of point `t`'s blocks is. -/
abbrev node (t : Fin cfg0.N) (r : Fin 2000) : Fin 100000 :=
  ⟨t.val * 2000 + r.val, by have h1 := lt_of_lt_of_eq t.isLt N0; have h2 := r.isLt; omega⟩

theorem b0 (t : Fin cfg0.N) (r : Fin 2000) (j : Fin 128) :
    (iblk0 V c 0 t : FVec Ideal S2000x128 .f32) (ix2 r j) = (V c main_arg0 : FVec Ideal S100000x128 .f32) (ix2 (node t r) j) := by
  have h := idx0 t
  blk_ext [iblk0, h]

theorem b1 (t : Fin cfg0.N) (k : Fin 3) (r : Fin 2000) (j : Fin 128) :
    (iblk0 V c 1 t : FVec Ideal S3x2000x128 .f32) (ix3 k r j)
      = (V c main_v0 : FVec Ideal S3x100000x128 .f32) (ix3 k (node t r) j) := by
  have h := idx0 t
  blk_ext [iblk0, h]

theorem b2 (t : Fin cfg0.N) (r : Fin 2000) (j : Fin 16) :
    (iblk0 V c 2 t : FVec Ideal S2000x16 .f32) (ix2 r j) = (V c main_arg4 : FVec Ideal S100000x16 .f32) (ix2 (node t r) j) := by
  have h := idx0 t
  blk_ext [iblk0, h]

theorem b3 (t : Fin cfg0.N) (r : Fin 2000) (j : Fin 3) :
    (iblk0 V c 3 t : FVec Ideal S2000x3 .f32) (ix2 r j) = (V c main_arg5 : FVec Ideal S100000x3 .f32) (ix2 (node t r) j) := by
  have h := idx0 t
  blk_ext [iblk0, h]

theorem b4 (t : Fin cfg0.N) (r : Fin 2000) :
    (iblk0 V c 4 t : IVec S1x1x2000 32) (ix3 0 0 r) = (V c main_v2 : IVec S50x1x2000 32) (ix3 ⟨t.val, lt_of_lt_of_eq t.isLt N0⟩ 0 r) := by
  have h := idx0 t
  blk_ext [iblk0, h]

set_option maxHeartbeats 4000000 in
/-- The blocks taken whole are their arrays, at every point of region 0. -/
theorem whole0 (t : Fin cfg0.N) :
    iblk0 V c 5 t = V c main_arg1 ∧ iblk0 V c 6 t = V c main_v1 ∧ iblk0 V c 7 t = V c main_arg7 ∧ iblk0 V c 8 t = V c main_v21
    ∧ iblk0 V c 9 t = V c main_v11 ∧ iblk0 V c 10 t = V c main_v22 ∧ iblk0 V c 11 t = V c main_v8
    ∧ iblk0 V c 12 t = V c main_v23 ∧ iblk0 V c 13 t = V c main_v24 ∧ iblk0 V c 14 t = V c main_v25
    ∧ iblk0 V c 15 t = V c main_v26 ∧ iblk0 V c 16 t = V c main_v13 ∧ iblk0 V c 17 t = V c main_v27
    ∧ iblk0 V c 18 t = V c main_arg17 ∧ iblk0 V c 19 t = V c main_v20 := by
  have h := idx0 t
  refine ⟨?_, ?_, ?_, ?_, ?_, ?_, ?_, ?_, ?_, ?_, ?_, ?_, ?_, ?_, ?_⟩ <;> (funext i; blk_ext [iblk0, h])

variable (m : (ℓ : Loc nD τ sig) → Buf (Elt Ideal) ℓ) (ρ : Dev nD → PrngReg) (g : Fin 100000 → Fin 64)

/-- The layer's inputs as the launch memory holds them. -/
def inputs : Inputs :=
  Inputs.of g (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18))
    (m ((c : Thread nD τ).loc main_arg19)) (m ((c : Thread nD τ).loc main_arg20)) (m ((c : Thread nD τ).loc main_arg21))
    (m ((c : Thread nD τ).loc main_arg22)) (m ((c : Thread nD τ).loc main_arg23)) (m ((c : Thread nD τ).loc main_arg24))
    (m ((c : Thread nD τ).loc main_arg25)) (m ((c : Thread nD τ).loc main_arg26)) (m ((c : Thread nD τ).loc main_arg27))
    (m ((c : Thread nD τ).loc main_arg28))

/-- The comparison of two numbers below 128, as a float: one where they agree, zero elsewhere. -/
theorem eye_word (i j : Fin 128) :
    (FloatOps.uitofp .f32 (IntOp.cmpi .eq (IntOp.addi (BitVec.ofNat 32 i.val) 0#32) (BitVec.ofNat 32 j.val)) : Ideal .f32)
      = if i = j then 1 else 0 := by
  change ((((IntOp.cmpi .eq (IntOp.addi (BitVec.ofNat 32 i.val) 0#32) (BitVec.ofNat 32 j.val)).toNat : ℕ) : ℝ) : EReal) = _
  by_cases h : i = j
  · subst h
    have : IntOp.cmpi .eq (IntOp.addi (BitVec.ofNat 32 i.val) 0#32) (BitVec.ofNat 32 i.val) = 1#1 := by
      simp [IntOp.cmpi, IntOp.addi]
    rw [this, if_pos rfl]; simp
  · have hne : BitVec.ofNat 32 i.val + 0#32 ≠ BitVec.ofNat 32 j.val := fun e => h <| Fin.ext <| by
      have e' := congrArg BitVec.toNat e
      simp only [BitVec.add_zero, BitVec.toNat_ofNat] at e'
      omega
    have : IntOp.cmpi .eq (IntOp.addi (BitVec.ofNat 32 i.val) 0#32) (BitVec.ofNat 32 j.val) = 0#1 := by
      simp only [IntOp.cmpi, IntOp.addi, beq_eq_false_iff_ne.mpr hne]
      rfl
    rw [this, if_neg h]; simp

/-- An array region 0 finds as the host operations before it leave it. -/
theorem V1_eq (b : Ref sig .tc) : V1 m ρ c b = StableHlo.after hostOps0 (W0 m ρ c) (Proc.devRef .tc b) := rfl

theorem v0_at (k : Fin 3) (n : Fin 100000) (j : Fin 128) :
    (V1 m ρ c main_v0 : FVec Ideal S3x100000x128 .f32) (ix3 k n j) = (inputs c m g).vec n k j := by
  rw [V1_eq]; after_results; pointwise; rfl

theorem v1_at (k : Fin 3) (b : Fin 64) (j : Fin 128) :
    (V1 m ρ c main_v1 : FVec Ideal S3x64x128 .f32) (ix3 k b j) = (inputs c m g).vl b k j := by
  rw [V1_eq]; after_results; pointwise; rfl

theorem v2_at (t : Fin 50) (r : Fin 2000) :
    (V1 m ρ c main_v2 : IVec S50x1x2000 32) (ix3 t 0 r)
      = (m ((c : Thread nD τ).loc main_arg6) : IVec S100000 32) (ix1 ⟨t.val * 2000 + r.val, by omega⟩) := by
  rw [V1_eq]; after_results; pointwise

theorem v8_at (i : Fin 16) (j : Fin 384) :
    (V1 m ρ c main_v8 : FVec Ideal S16x384 .f32) (ix2 i j) = (inputs c m g).Wep i j * colscale j := by
  rw [V1_eq]; after_results; pointwise
  unfold colscale; split <;> rfl

theorem v23_at (j : Fin 384) :
    (V1 m ρ c main_v23 : FVec Ideal S1x384 .f32) (ix2 0 j) = (inputs c m g).bep j * colscale j := by
  rw [V1_eq]; after_results; pointwise
  unfold colscale; split <;> rfl

theorem v11_at (i : Fin 128) (j : Fin 384) :
    (V1 m ρ c main_v11 : FVec Ideal S128x384 .f32) (ix2 i j) = (inputs c m g).Wxp2 i j * cS := by
  rw [V1_eq]; after_results; pointwise; rfl

theorem v13_at (i j : Fin 128) :
    (V1 m ρ c main_v13 : FVec Ideal S128x128 .f32) (ix2 i j) = (inputs c m g).Wsl2 i j * cS := by
  rw [V1_eq]; after_results; pointwise; rfl

theorem v20_at (i j : Fin 128) :
    (V1 m ρ c main_v20 : FVec Ideal S128x128 .f32) (ix2 i j) = (inputs c m g).Wvl i j + if i = j then 1 else 0 := by
  rw [V1_eq]; after_results; pointwise
  rw [eye_word]; rfl

theorem v21_at (j : Fin 128) : (V1 m ρ c main_v21 : FVec Ideal S1x128 .f32) (ix2 0 j) = (inputs c m g).bxp1 j := by
  rw [V1_eq]; after_results; pointwise; rfl

theorem v22_at (j : Fin 384) : (V1 m ρ c main_v22 : FVec Ideal S1x384 .f32) (ix2 0 j) = (inputs c m g).bxp2 j := by
  rw [V1_eq]; after_results; pointwise; rfl

theorem v24_at (i j : Fin 128) :
    (V1 m ρ c main_v24 : FVec Ideal S128x128 .f32) (ix2 i j) = (inputs c m g).Wsl1 (lo (by decide) i) j := by
  rw [V1_eq]; after_results; pointwise; rfl

theorem v25_at (i j : Fin 128) :
    (V1 m ρ c main_v25 : FVec Ideal S128x128 .f32) (ix2 i j) = (inputs c m g).Wsl1 (at' 128 (by decide) i) j := by
  rw [V1_eq]; after_results; pointwise; rfl

theorem v26_at (j : Fin 128) : (V1 m ρ c main_v26 : FVec Ideal S1x128 .f32) (ix2 0 j) = (inputs c m g).bsl1 j := by
  rw [V1_eq]; after_results; pointwise; rfl

theorem v27_at (j : Fin 128) : (V1 m ρ c main_v27 : FVec Ideal S1x128 .f32) (ix2 0 j) = (inputs c m g).bsl2 j := by
  rw [V1_eq]; after_results; pointwise; rfl

/-- An argument as region 0 finds it. -/
theorem arg1 (a : Ref sig .tc) (ha : a ∈ argRefs) : V1 m ρ c a = m ((c : Thread nD τ).loc a) := W1_args m ρ c a ha

/-- Region 0's blocks at a point hold the rows of its nodes and the prepared weights. -/
theorem holds0 (hg : ∀ n, (m ((c : Thread nD τ).loc main_arg6) : IVec S100000 32) (ix1 n) = BitVec.ofNat 32 (g n).val)
    (t : Fin cfg0.N) :
    Node.Holds (inputs c m g) (node t) (iblk0 (V1 m ρ) c 0 t) (iblk0 (V1 m ρ) c 1 t) (iblk0 (V1 m ρ) c 2 t)
      (iblk0 (V1 m ρ) c 3 t) (iblk0 (V1 m ρ) c 4 t) (iblk0 (V1 m ρ) c 5 t) (iblk0 (V1 m ρ) c 6 t) (iblk0 (V1 m ρ) c 7 t)
      (iblk0 (V1 m ρ) c 8 t) (iblk0 (V1 m ρ) c 9 t) (iblk0 (V1 m ρ) c 10 t) (iblk0 (V1 m ρ) c 11 t) (iblk0 (V1 m ρ) c 12 t)
      (iblk0 (V1 m ρ) c 13 t) (iblk0 (V1 m ρ) c 14 t) (iblk0 (V1 m ρ) c 15 t) (iblk0 (V1 m ρ) c 16 t) (iblk0 (V1 m ρ) c 17 t)
      (iblk0 (V1 m ρ) c 18 t) (iblk0 (V1 m ρ) c 19 t) := by
  obtain ⟨e5, e6, e7, e8, e9, e10, e11, e12, e13, e14, e15, e16, e17, e18, e19⟩ := whole0 (V1 m ρ) c t
  rw [e5, e6, e7, e8, e9, e10, e11, e12, e13, e14, e15, e16, e17, e18, e19]
  exact {
    h0 := fun r j => (b0 (V1 m ρ) c t r j).trans (congrFun (arg1 c m ρ main_arg0 (by decide +kernel)) _)
    h1 := fun k r j => (b1 (V1 m ρ) c t k r j).trans (v0_at c m ρ g k _ j)
    h2 := fun r j => (b2 (V1 m ρ) c t r j).trans (congrFun (arg1 c m ρ main_arg4 (by decide +kernel)) _)
    h3 := fun r k => (b3 (V1 m ρ) c t r k).trans (congrFun (arg1 c m ρ main_arg5 (by decide +kernel)) _)
    h4 := fun r => (b4 (V1 m ρ) c t r).trans ((v2_at c m ρ _ r).trans (hg _))
    h5 := fun b j => congrFun (arg1 c m ρ main_arg1 (by decide +kernel)) _
    h6 := v1_at c m ρ g
    h7 := fun i j => congrFun (arg1 c m ρ main_arg7 (by decide +kernel)) _
    h8 := v21_at c m ρ g
    h9 := v11_at c m ρ g
    h10 := v22_at c m ρ g
    h11 := v8_at c m ρ g
    h12 := v23_at c m ρ g
    h13 := v24_at c m ρ g
    h14 := v25_at c m ρ g
    h15 := v26_at c m ρ g
    h16 := v13_at c m ρ g
    h17 := v27_at c m ρ g
    h18 := fun i j => congrFun (arg1 c m ρ main_arg17 (by decide +kernel)) _
    h19 := v20_at c m ρ g }

end Cert.KernelIdeal.Entry
-- ==== Proof.Precond.lean ====
/- What the precondition says of the kernel's arguments: each node's graph number lies below 64, and the arrays it names
   hold real numbers. -/
module

public import proofs.«01_k».proof.Defs
public import proofs.«01_k».proof.Proof.KernelIdeal.Entry

@[expose] public section

set_option maxRecDepth 16384

noncomputable section

namespace Cert.Precond

open Idealize.ShloMosaic Idealize.ShloMosaic.TcCoe Cert.Spec Cert.KernelIdeal Cert.KernelIdeal.Entry

/-- The precondition's shape relations hold. -/
theorem facts : Cert.Pre_finite_nodes_and_graph_ids.Facts :=
  ⟨by decide, by decide, by decide, by decide, by decide, by decide, by decide, by decide, by decide, by decide⟩

/-- A number whose absolute value lies below infinity is real. -/
theorem real_of_lt {a : EReal} (h : Ideal.cmp .olt (max a (-a)) (Ideal.ofBits .f32 0x7F800000#32) = 1#1) : Real' a := by
  have htop : Ideal.ofBits .f32 0x7F800000#32 = ⊤ := by simp [Ideal.ofBits, Ideal.ieee]
  rw [htop] at h
  have hlt : max a (-a) < ⊤ := by
    by_contra hn
    simp [Ideal.cmp, hn] at h
  induction a with
  | bot => exact absurd hlt (by simp)
  | top => exact absurd hlt (by simp)
  | coe r => exact ⟨r, rfl⟩

/-- An array found finite everywhere holds real numbers. -/
theorem real_of {S : Shape} (a : FVec Ideal S .f32) (hb : Shape.BroadcastsInDim ⟨0, ![]⟩ S (![] : Fin 0 → Fin S.rank))
    (h : cmpf .olt (Host.absf a) (broadcastInDim S ![] hb (constant (F := Ideal) ⟨0, ![]⟩ .f32 0x7F800000#32)) = fun _ => 1#1)
    (i : S.Idx) : Real' (a i) :=
  real_of_lt (congrFun h i)

/-- A word that as a signed number lies at or above 0 and below 64 is a number below 64. -/
theorem small_of (w : BitVec 32) (h : IntOp.andi (IntOp.cmpi .sge w 0#32) (IntOp.cmpi .slt w 64#32) = 1#1) : w.toNat < 64 := by
  simp only [IntOp.andi, IntOp.cmpi] at h
  have h0 : BitVec.sle 0#32 w = true := by
    by_contra hn
    rw [Bool.not_eq_true] at hn
    rw [hn] at h
    revert h
    cases w.slt 64#32 <;> decide
  have h1 : w.slt 64#32 = true := by
    by_contra hn
    rw [Bool.not_eq_true] at hn
    rw [hn, h0] at h
    exact absurd h (by decide)
  rw [BitVec.sle_iff_toInt_le] at h0
  rw [BitVec.slt_iff_toInt_lt] at h1
  have e0 : (0#32 : BitVec 32).toInt = 0 := by decide
  have e1 : (64#32 : BitVec 32).toInt = 64 := by decide
  rw [e0, BitVec.toInt_eq_toNat_cond] at h0
  rw [e1, BitVec.toInt_eq_toNat_cond] at h1
  have := w.isLt
  split at h0 <;> omega

variable (m : (ℓ : Loc nD τ sig) → Buf (Elt Ideal) ℓ)

/-- Under the precondition every node has a graph and the inputs the law needs are real. -/
theorem of_pre (h : Cert.Pre_KernelIdeal_finite_nodes_and_graph_ids (hPre_finite_nodes_and_graph_ids := facts) m) (c : Dev nD) :
    ∃ g : Fin 100000 → Fin 64,
      (∀ n, (m ((c : Thread nD τ).loc main_arg6) : IVec S100000 32) (ix1 n) = BitVec.ofNat 32 (g n).val)
      ∧ (inputs c m g).Finite := by
  obtain ⟨h0, h1, h2, h3, h4, h5, h6, h7, h8, h9, h10, h11⟩ := h c
  have hs : ∀ n : Fin 100000, ((m ((c : Thread nD τ).loc main_arg6) : IVec S100000 32) (ix1 n)).toNat < 64 := fun n =>
    small_of _ (congrFun h0 (ix1 n))
  refine ⟨fun n => ⟨_, hs n⟩, fun n => ?_, ?_⟩
  · simp
  · exact {
      x := fun n j => real_of (m ((c : Thread nD τ).loc main_arg0) : FVec Ideal S100000x128 .f32) _ h1 _
      vec := fun n k j => real_of (m ((c : Thread nD τ).loc main_arg2) : FVec Ideal S100000x3x128 .f32) _ h2 _
      ef := fun n j => real_of (m ((c : Thread nD τ).loc main_arg4) : FVec Ideal S100000x16 .f32) _ h3 _
      eu := fun n k => real_of (m ((c : Thread nD τ).loc main_arg5) : FVec Ideal S100000x3 .f32) _ h4 _
      Wxp1 := fun i j => real_of (m ((c : Thread nD τ).loc main_arg7) : FVec Ideal S128x128 .f32) _ h5 _
      bxp1 := fun j => real_of (m ((c : Thread nD τ).loc main_arg8) : FVec Ideal S128 .f32) _ h6 _
      Wxp2 := fun i j => real_of (m ((c : Thread nD τ).loc main_arg9) : FVec Ideal S128x384 .f32) _ h7 _
      bxp2 := fun j => real_of (m ((c : Thread nD τ).loc main_arg10) : FVec Ideal S384 .f32) _ h8 _
      Wep := fun i j => real_of (m ((c : Thread nD τ).loc main_arg11) : FVec Ideal S16x384 .f32) _ h9 _
      bep := fun j => real_of (m ((c : Thread nD τ).loc main_arg12) : FVec Ideal S384 .f32) _ h10 _
      Wvl := fun i j => real_of (m ((c : Thread nD τ).loc main_arg17) : FVec Ideal S128x128 .f32) _ h11 _ }

end Cert.Precond
-- ==== Proof.KernelIdeal.Exit.lean ====
/- What the two regions leave in their output arrays, and the program's five results as the layer's mathematics. -/
module

public import proofs.«01_k».proof.Proof.KernelIdeal.Entry

@[expose] public section

set_option maxRecDepth 16384

noncomputable section

namespace Cert.KernelIdeal.Exit

open Cert.KernelIdeal Cert.KernelIdeal.Gen Cert.KernelIdeal.Launched Cert.KernelIdeal.Entry Cert.Spec
open Idealize.ShloMosaic Idealize.ShloMosaic.TcCoe

/-- The node that row `r` of block `t` is. -/
abbrev nd (t : Fin 50) (r : Fin 2000) : Fin 100000 := ⟨t.val * 2000 + r.val, by omega⟩

/-- A block's part of the sum of the node scalars over graph `b`. -/
def psx (A : Inputs) (t : Fin 50) (b : Fin 64) (j : Fin 128) : EReal :=
  ∑ r : Fin 2000, if A.g (nd t r) = b then A.hx (nd t r) j else 0
/-- A block's part of the sum of the node vectors over graph `b`, the three components side by side. -/
def psv (A : Inputs) (t : Fin 50) (b : Fin 64) (i : Fin 384) : EReal :=
  ∑ r : Fin 2000, if A.g (nd t r) = b then A.hv (nd t r) ⟨i.val / 128, by omega⟩ ⟨i.val % 128, by omega⟩ else 0
/-- A block's part of the number of nodes of graph `b`. -/
def pcnt (A : Inputs) (t : Fin 50) (b : Fin 64) : EReal := ∑ r : Fin 2000, if A.g (nd t r) = b then 1 else 0

/-- The blocks' parts make the sum over all nodes. -/
theorem sum_blocks (f : Fin 100000 → EReal) : ∑ t : Fin 50, ∑ r : Fin 2000, f (nd t r) = ∑ n, f n :=
  (Fin.sum_univ_tiles 50 2000 rfl f).symm

/-! ## Where the node region's output blocks lie -/

theorem place20 (t : Fin cfg0.N) (y0 : Fin 2000) (y1 : Fin 128) (G : FVec Ideal S100000x128 .f32) :
    G (((View.whole main_v28_0).slice (win0_20.rect t)).emb (ix2 y0 y1)) = G (ix2 (node t y0) y1) := by
  have h := idx0 t
  blk_ext [h]

theorem place21 (t : Fin cfg0.N) (y0 : Fin 3) (y1 : Fin 2000) (y2 : Fin 128) (G : FVec Ideal S3x100000x128 .f32) :
    G (((View.whole main_v28_1).slice (win0_21.rect t)).emb (ix3 y0 y1 y2)) = G (ix3 y0 (node t y1) y2) := by
  have h := idx0 t
  blk_ext [h]

theorem place22 (t : Fin cfg0.N) (y0 : Fin 1) (y1 : Fin 64) (y2 : Fin 128) (G : FVec Ideal S50x64x128 .f32) :
    G (((View.whole main_v28_2).slice (win0_22.rect t)).emb (ix3 y0 y1 y2)) = G (ix3 ⟨t.val, lt_of_lt_of_eq t.isLt N0⟩ y1 y2) := by
  have h := idx0 t
  blk_ext [h]

theorem place23 (t : Fin cfg0.N) (y0 : Fin 1) (y1 : Fin 64) (y2 : Fin 384) (G : FVec Ideal S50x64x384 .f32) :
    G (((View.whole main_v28_3).slice (win0_23.rect t)).emb (ix3 y0 y1 y2)) = G (ix3 ⟨t.val, lt_of_lt_of_eq t.isLt N0⟩ y1 y2) := by
  have h := idx0 t
  blk_ext [h]

theorem place24 (t : Fin cfg0.N) (y0 : Fin 1) (y1 : Fin 64) (y2 : Fin 8) (G : FVec Ideal S50x64x8 .f32) :
    G (((View.whole main_v28_4).slice (win0_24.rect t)).emb (ix3 y0 y1 y2)) = G (ix3 ⟨t.val, lt_of_lt_of_eq t.isLt N0⟩ y1 y2) := by
  have h := idx0 t
  blk_ext [h]

variable (c : Dev nD) (m : (ℓ : Loc nD τ sig) → Buf (Elt Ideal) ℓ) (ρ : Dev nD → PrngReg) (g : Fin 100000 → Fin 64)
variable (hg : ∀ n, (m ((c : Thread nD τ).loc main_arg6) : IVec S100000 32) (ix1 n) = BitVec.ofNat 32 (g n).val)
variable (hR : (inputs c m g).Finite)
include hg

/-! ## The node region's output arrays -/

theorem arr20 : (dat0 (V1 m ρ) c).arrAt 20 cfg0.N
    = (fun i => (inputs c m g).hx (i 0) (i 1) : FVec Ideal S100000x128 .f32) := by
  refine (dat0 (V1 m ρ) c).arrAt_eq_of_covers 20 _ (by decide +kernel) fun t _ y => ?_
  blk_simp
  rw [after0_20]
  idx_vars y
  exact (Node.out20 (holds0 c m ρ g hg t) y0 y1).trans
    (place20 t y0 y1 fun i => (inputs c m g).hx (i 0) (i 1)).symm

include hR in
theorem arr21 : (dat0 (V1 m ρ) c).arrAt 21 cfg0.N
    = (fun i => (inputs c m g).hv (i 1) (i 0) (i 2) : FVec Ideal S3x100000x128 .f32) := by
  refine (dat0 (V1 m ρ) c).arrAt_eq_of_covers 21 _ (by decide +kernel) fun t _ y => ?_
  blk_simp
  rw [after0_21]
  idx_vars y
  exact (Node.out21 (holds0 c m ρ g hg t) hR y0 y1 y2).trans
    (place21 t y0 y1 y2 fun i => (inputs c m g).hv (i 1) (i 0) (i 2)).symm

theorem arr22 : (dat0 (V1 m ρ) c).arrAt 22 cfg0.N
    = (fun i => psx (inputs c m g) (i 0) (i 1) (i 2) : FVec Ideal S50x64x128 .f32) := by
  refine (dat0 (V1 m ρ) c).arrAt_eq_of_covers 22 _ (by decide +kernel) fun t _ y => ?_
  blk_simp
  rw [after0_22]
  idx_vars y
  obtain rfl : y0 = 0 := Subsingleton.elim _ _
  exact (Node.out22 (holds0 c m ρ g hg t) y1 y2).trans
    (place22 t 0 y1 y2 fun i => psx (inputs c m g) (i 0) (i 1) (i 2)).symm

include hR in
theorem arr23 : (dat0 (V1 m ρ) c).arrAt 23 cfg0.N
    = (fun i => psv (inputs c m g) (i 0) (i 1) (i 2) : FVec Ideal S50x64x384 .f32) := by
  refine (dat0 (V1 m ρ) c).arrAt_eq_of_covers 23 _ (by decide +kernel) fun t _ y => ?_
  blk_simp
  rw [after0_23]
  idx_vars y
  obtain rfl : y0 = 0 := Subsingleton.elim _ _
  exact (Node.out23 (holds0 c m ρ g hg t) hR ⟨y2.val / 128, by omega⟩ y1 ⟨y2.val % 128, by omega⟩ y2
    (Nat.div_add_mod y2.val 128).symm).trans
    (place23 t 0 y1 y2 fun i => psv (inputs c m g) (i 0) (i 1) (i 2)).symm

theorem arr24 : (dat0 (V1 m ρ) c).arrAt 24 cfg0.N
    = (fun i => pcnt (inputs c m g) (i 0) (i 1) : FVec Ideal S50x64x8 .f32) := by
  refine (dat0 (V1 m ρ) c).arrAt_eq_of_covers 24 _ (by decide +kernel) fun t _ y => ?_
  blk_simp
  rw [after0_24]
  idx_vars y
  obtain rfl : y0 = 0 := Subsingleton.elim _ _
  exact (Node.out24 (holds0 c m ρ g hg t) y1 y2).trans
    (place24 t 0 y1 y2 fun i => pcnt (inputs c m g) (i 0) (i 1)).symm

/-! ## What the graph region finds -/

omit hg in
theorem idx1 : ∀ t : Fin cfg1.N, win1_0.index t = ![0, 0, 0] ∧ win1_1.index t = ![0, 0, 0] ∧ win1_2.index t = ![0, 0, 0]
    ∧ win1_3.index t = ![0, 0] ∧ win1_4.index t = ![0, 0, 0] ∧ win1_5.index t = ![0, 0] ∧ win1_6.index t = ![0, 0]
    ∧ win1_7.index t = ![0, 0] ∧ win1_8.index t = ![0, 0] ∧ win1_9.index t = ![0, 0] ∧ win1_10.index t = ![0, 0]
    ∧ win1_11.index t = ![0, 0] ∧ win1_12.index t = ![0, 0] ∧ win1_13.index t = ![0, 0] ∧ win1_14.index t = ![0, 0]
    ∧ win1_15.index t = ![0, 0] ∧ win1_16.index t = ![0, 0] ∧ win1_17.index t = ![0, 0] :=
  (by decide +kernel : ∀ t : Fin grid1.N, _)

omit hg in
set_option maxHeartbeats 4000000 in
/-- Every input block of the graph region is its whole array. -/
theorem whole1 (V : (c : Dev nD) → (b : Ref sig .tc) → Buf (Elt Ideal) ((c : Thread nD τ).loc b)) (t : Fin cfg1.N) :
    iblk1 V c 0 t = V c main_v28_2 ∧ iblk1 V c 1 t = V c main_v28_3 ∧ iblk1 V c 2 t = V c main_v28_4
    ∧ iblk1 V c 3 t = V c main_arg1 ∧ iblk1 V c 4 t = V c main_v1 ∧ iblk1 V c 5 t = V c main_v30
    ∧ iblk1 V c 6 t = V c main_v31 ∧ iblk1 V c 7 t = V c main_v32 ∧ iblk1 V c 8 t = V c main_arg20
    ∧ iblk1 V c 9 t = V c main_v33 ∧ iblk1 V c 10 t = V c main_arg22 ∧ iblk1 V c 11 t = V c main_arg23
    ∧ iblk1 V c 12 t = V c main_v34 ∧ iblk1 V c 13 t = V c main_v35 ∧ iblk1 V c 14 t = V c main_v36
    ∧ iblk1 V c 15 t = V c main_arg26 ∧ iblk1 V c 16 t = V c main_v37 ∧ iblk1 V c 17 t = V c main_arg28 := by
  have h := idx1 t
  refine ⟨?_, ?_, ?_, ?_, ?_, ?_, ?_, ?_, ?_, ?_, ?_, ?_, ?_, ?_, ?_, ?_, ?_, ?_⟩ <;> (funext i; blk_ext [iblk1, h])

omit hg in
theorem V3_eq (b : Ref sig .tc) : V3 m ρ c b = StableHlo.after hostOps1 (W2 m ρ c) (Proc.devRef .tc b) := rfl

omit hg in
/-- An argument as the graph region finds it. -/
theorem arg3 (a : Ref sig .tc) (ha : a ∈ argRefs) : V3 m ρ c a = m ((c : Thread nD τ).loc a) := W3_args m ρ c a ha

omit hg in
theorem v1_at3 (k : Fin 3) (b : Fin 64) (j : Fin 128) :
    (V3 m ρ c main_v1 : FVec Ideal S3x64x128 .f32) (ix3 k b j) = (inputs c m g).vl b k j := by
  have e : V3 m ρ c main_v1 = V1 m ρ c main_v1 :=
    (W3_of m ρ c main_v1 (by decide +kernel)).trans (W2_of m ρ c main_v1 (by decide +kernel))
  rw [e]
  exact v1_at c m ρ g k b j

omit hg in
theorem v30_at (i j : Fin 128) :
    (V3 m ρ c main_v30 : FVec Ideal S128x128 .f32) (ix2 i j) = (inputs c m g).Wsg1 (lo (by decide) i) j := by
  rw [V3_eq]; after_results; pointwise
  rw [W2_args m ρ c main_arg18 (by decide +kernel)]; rfl

omit hg in
theorem v31_at (i j : Fin 128) :
    (V3 m ρ c main_v31 : FVec Ideal S128x128 .f32) (ix2 i j) = (inputs c m g).Wsg1 (at' 128 (by decide) i) j := by
  rw [V3_eq]; after_results; pointwise
  rw [W2_args m ρ c main_arg18 (by decide +kernel)]; rfl

omit hg in
theorem v32_at (j : Fin 128) : (V3 m ρ c main_v32 : FVec Ideal S1x128 .f32) (ix2 0 j) = (inputs c m g).bsg1 j := by
  rw [V3_eq]; after_results; pointwise
  rw [W2_args m ρ c main_arg19 (by decide +kernel)]; rfl

omit hg in
theorem v33_at (j : Fin 128) : (V3 m ρ c main_v33 : FVec Ideal S1x128 .f32) (ix2 0 j) = (inputs c m g).bsg2 j := by
  rw [V3_eq]; after_results; pointwise
  rw [W2_args m ρ c main_arg21 (by decide +kernel)]; rfl

omit hg in
theorem v34_at (i j : Fin 128) :
    (V3 m ρ c main_v34 : FVec Ideal S128x128 .f32) (ix2 i j) = (inputs c m g).Wslp1 (lo (by decide) i) j := by
  rw [V3_eq]; after_results; pointwise
  rw [W2_args m ρ c main_arg24 (by decide +kernel)]; rfl

omit hg in
theorem v35_at (i j : Fin 128) :
    (V3 m ρ c main_v35 : FVec Ideal S128x128 .f32) (ix2 i j) = (inputs c m g).Wslp1 (at' 128 (by decide) i) j := by
  rw [V3_eq]; after_results; pointwise
  rw [W2_args m ρ c main_arg24 (by decide +kernel)]; rfl

omit hg in
theorem v36_at (j : Fin 128) : (V3 m ρ c main_v36 : FVec Ideal S1x128 .f32) (ix2 0 j) = (inputs c m g).bslp1 j := by
  rw [V3_eq]; after_results; pointwise
  rw [W2_args m ρ c main_arg25 (by decide +kernel)]; rfl

omit hg in
theorem v37_at (j : Fin 384) : (V3 m ρ c main_v37 : FVec Ideal S1x384 .f32) (ix2 0 j) = (inputs c m g).bslp2 j := by
  rw [V3_eq]; after_results; pointwise
  rw [W2_args m ρ c main_arg27 (by decide +kernel)]; rfl

theorem part2 : V3 m ρ c main_v28_2 = (fun i => psx (inputs c m g) (i 0) (i 1) (i 2) : FVec Ideal S50x64x128 .f32) :=
  ((W3_of m ρ c main_v28_2 (by decide +kernel)).trans (W2_arr m ρ c 22)).trans (arr22 c m ρ g hg)

include hR in
theorem part3 : V3 m ρ c main_v28_3 = (fun i => psv (inputs c m g) (i 0) (i 1) (i 2) : FVec Ideal S50x64x384 .f32) :=
  ((W3_of m ρ c main_v28_3 (by decide +kernel)).trans (W2_arr m ρ c 23)).trans (arr23 c m ρ g hg hR)

theorem part4 : V3 m ρ c main_v28_4 = (fun i => pcnt (inputs c m g) (i 0) (i 1) : FVec Ideal S50x64x8 .f32) :=
  ((W3_of m ρ c main_v28_4 (by decide +kernel)).trans (W2_arr m ρ c 24)).trans (arr24 c m ρ g hg)

include hR in
/-- The graph region's blocks hold the node blocks' parts and the prepared weights. -/
theorem holds1 (t : Fin cfg1.N) :
    Graph.Holds (inputs c m g) (iblk1 (V3 m ρ) c 0 t) (iblk1 (V3 m ρ) c 1 t) (iblk1 (V3 m ρ) c 2 t)
      (iblk1 (V3 m ρ) c 3 t) (iblk1 (V3 m ρ) c 4 t) (iblk1 (V3 m ρ) c 5 t) (iblk1 (V3 m ρ) c 6 t) (iblk1 (V3 m ρ) c 7 t)
      (iblk1 (V3 m ρ) c 8 t) (iblk1 (V3 m ρ) c 9 t) (iblk1 (V3 m ρ) c 10 t) (iblk1 (V3 m ρ) c 11 t) (iblk1 (V3 m ρ) c 12 t)
      (iblk1 (V3 m ρ) c 13 t) (iblk1 (V3 m ρ) c 14 t) (iblk1 (V3 m ρ) c 15 t) (iblk1 (V3 m ρ) c 16 t)
      (iblk1 (V3 m ρ) c 17 t) := by
  obtain ⟨e0, e1, e2, e3, e4, e5, e6, e7, e8, e9, e10, e11, e12, e13, e14, e15, e16, e17⟩ := whole1 c (V3 m ρ) t
  rw [e0, e1, e2, e3, e4, e5, e6, e7, e8, e9, e10, e11, e12, e13, e14, e15, e16, e17, part2 c m ρ g hg,
    part3 c m ρ g hg hR, part4 c m ρ g hg]
  exact {
    h0 := fun b j => sum_blocks fun n => if g n = b then (inputs c m g).hx n j else 0
    h1 := fun b k j i hi => by
      have e : ∀ t : Fin 50, psv (inputs c m g) t b i
          = ∑ r : Fin 2000, if (inputs c m g).g (nd t r) = b then (inputs c m g).hv (nd t r) k j else 0 := fun t => by
        have hk : (⟨i.val / 128, by omega⟩ : Fin 3) = k := Fin.ext (by simp only; omega)
        have hj : (⟨i.val % 128, by omega⟩ : Fin 128) = j := Fin.ext (by simp only; omega)
        unfold psv
        rw [hk, hj]
      exact (Finset.sum_congr rfl fun t _ => e t).trans
        (sum_blocks fun n => if (inputs c m g).g n = b then (inputs c m g).hv n k j else 0)
    h2 := fun b => sum_blocks fun n => if g n = b then 1 else 0
    h3 := fun b j => congrFun (arg3 c m ρ main_arg1 (by decide +kernel)) _
    h4 := v1_at3 c m ρ g
    h5 := v30_at c m ρ g
    h6 := v31_at c m ρ g
    h7 := v32_at c m ρ g
    h8 := fun i j => congrFun (arg3 c m ρ main_arg20 (by decide +kernel)) _
    h9 := v33_at c m ρ g
    h10 := fun i j => congrFun (arg3 c m ρ main_arg22 (by decide +kernel)) _
    h11 := fun i j => congrFun (arg3 c m ρ main_arg23 (by decide +kernel)) _
    h12 := v34_at c m ρ g
    h13 := v35_at c m ρ g
    h14 := v36_at c m ρ g
    h15 := fun i j => congrFun (arg3 c m ρ main_arg26 (by decide +kernel)) _
    h16 := v37_at c m ρ g
    h17 := fun i j => congrFun (arg3 c m ρ main_arg28 (by decide +kernel)) _ }

/-! ## The graph region's output arrays -/

include hR in
theorem arr18 : (dat1 (V3 m ρ) c).arrAt 18 cfg1.N
    = (fun i => (inputs c m g).slo (i 0) (i 1) : FVec Ideal S64x128 .f32) := by
  refine (dat1 (V3 m ρ) c).arrAt_eq_of_after_last 18 t1_0 (by decide +kernel) _ fun y => ?_
  blk_simp
  rw [after1_18]
  idx_vars y
  exact Graph.out18 (holds1 c m ρ g hg hR t1_0) y0 y1

include hR in
theorem arr19 : (dat1 (V3 m ρ) c).arrAt 19 cfg1.N
    = (fun i => (inputs c m g).vlo (i 1) (i 0) (i 2) : FVec Ideal S3x64x128 .f32) := by
  refine (dat1 (V3 m ρ) c).arrAt_eq_of_after_last 19 t1_0 (by decide +kernel) _ fun y => ?_
  blk_simp
  rw [after1_19]
  idx_vars y
  exact Graph.out19 (holds1 c m ρ g hg hR t1_0) y0 y1 y2

include hR in
theorem arr20' : (dat1 (V3 m ρ) c).arrAt 20 cfg1.N
    = (fun i => (inputs c m g).ld (i 1) (i 0) (i 2) : FVec Ideal S3x64x1 .f32) := by
  refine (dat1 (V3 m ρ) c).arrAt_eq_of_after_last 20 t1_0 (by decide +kernel) _ fun y => ?_
  blk_simp
  rw [after1_20]
  idx_vars y
  exact Graph.out20 (holds1 c m ρ g hg hR t1_0) y0 y1 y2

/-! ## The five results -/

theorem result1 : W5 m ρ c (Proc.devRef .tc main_v28_0)
    = (fun i => (inputs c m g).hx (i 0) (i 1) : FVec Ideal S100000x128 .f32) :=
  ((W5_of m ρ c main_v28_0 (by decide +kernel)).trans ((W4_of m ρ c main_v28_0 (by decide +kernel)).trans
    ((W3_of m ρ c main_v28_0 (by decide +kernel)).trans (W2_arr m ρ c 20)))).trans (arr20 c m ρ g hg)

include hR in
theorem result2 : W5 m ρ c (Proc.devRef .tc main_v29)
    = (fun i => (inputs c m g).hv (i 0) (i 1) (i 2) : FVec Ideal S100000x3x128 .f32) := by
  refine ((W5_of m ρ c main_v29 (by decide +kernel)).trans (W4_of m ρ c main_v29 (by decide +kernel))).trans ?_
  change StableHlo.after hostOps1 (W2 m ρ c) (Proc.devRef .tc main_v29) = _
  after_results
  rw [(W2_arr m ρ c 21).trans (arr21 c m ρ g hg hR)]
  funext y
  idx_vars y
  pointwise

include hR in
theorem result3 : W5 m ρ c (Proc.devRef .tc main_v38_0)
    = (fun i => (inputs c m g).slo (i 0) (i 1) : FVec Ideal S64x128 .f32) :=
  ((W5_of m ρ c main_v38_0 (by decide +kernel)).trans (W4_arr m ρ c 18)).trans (arr18 c m ρ g hg hR)

include hR in
theorem result4 : W5 m ρ c (Proc.devRef .tc main_v39)
    = (fun i => (inputs c m g).vlo (i 0) (i 1) (i 2) : FVec Ideal S64x3x128 .f32) := by
  change StableHlo.after hostOps2 (W4 m ρ c) (Proc.devRef .tc main_v39) = _
  after_results
  rw [(W4_arr m ρ c 19).trans (arr19 c m ρ g hg hR)]
  funext y
  idx_vars y
  pointwise

include hR in
theorem result5 : W5 m ρ c (Proc.devRef .tc main_v40)
    = (fun i => (inputs c m g).ld (i 0) (i 1) (i 2) : FVec Ideal S64x3x1 .f32) := by
  change StableHlo.after hostOps2 (W4 m ρ c) (Proc.devRef .tc main_v40) = _
  after_results
  rw [(W4_arr m ρ c 20).trans (arr20' c m ρ g hg hR)]
  funext y
  idx_vars y
  obtain rfl : y2 = 0 := Subsingleton.elim _ _
  pointwise

end Cert.KernelIdeal.Exit
-- ==== Proof.Reference.Rows.lean ====
/- The reference's row lookups and row sums at an index: a gather of rows at graph numbers reads the named row, a scatter
   of rows at graph numbers sums the rows of the nodes that name it. -/
module

public import proofs.«01_k».proof.Proof.Gen.ReferenceIdeal
public import Idealize.ShloMosaic.Lib.Pointwise

@[expose] public section

set_option maxRecDepth 16384

noncomputable section

namespace Cert.ReferenceIdeal.Rows

open Cert.ReferenceIdeal Cert.ReferenceIdeal.Gen Idealize.ShloMosaic

/-- The signed value of a graph number's word. -/
theorem toInt_word (b : Fin 64) : (BitVec.ofNat 32 b.val).toInt = (b.val : Int) := by
  have h : ∀ b : Fin 64, (BitVec.ofNat 32 b.val).toInt = (b.val : Int) := by decide
  exact h b

variable (idx : IVec S100000x1 32) (g : Fin 100000 → Fin 64) (hg : ∀ n, idx (ix2 n 0) = BitVec.ofNat 32 (g n).val)

include hg

/-- Row `n` of the rows gathered from a table of graph scalars is the row of node `n`'s graph. -/
theorem gather2 (x : FVec Ideal S64x128 .f32) (n : Fin 100000) (j : Fin 128) :
    Host.gather gather_S64x128_S100000x1_S100000x128_1_0_n_n_0_1_1128 x idx (ix2 n j) = x (ix2 (g n) j) := by
  unfold Host.gather
  refine congrArg x (funext fun a => Fin.ext ?_)
  have hs : gather_S64x128_S100000x1_S100000x128_1_0_n_n_0_1_1128.siIdx (ix2 n j) ⟨0, by decide⟩ = ix2 n 0 := by
    funext b; refine Fin.ext ?_
    match b with
    | ⟨0, _⟩ => rfl
    | ⟨1, _⟩ => rfl
  match a with
  | ⟨0, _⟩ =>
    show min (idx (gather_S64x128_S100000x1_S100000x128_1_0_n_n_0_1_1128.siIdx (ix2 n j) ⟨0, by decide⟩)).toInt.toNat (64 - 1) + 0 + 0 = (g n).val
    rw [hs, hg, toInt_word]
    have := (g n).isLt
    simp only [Int.toNat_natCast]; omega
  | ⟨1, _⟩ => show 0 + 0 + j.val = j.val; omega

/-- The same of a table of graph vectors. -/
theorem gather3 (x : FVec Ideal S64x3x128 .f32) (n : Fin 100000) (k : Fin 3) (j : Fin 128) :
    Host.gather gather_S64x3x128_S100000x1_S100000x3x128_12_0_n_n_0_1_13128 x idx (ix3 n k j) = x (ix3 (g n) k j) := by
  unfold Host.gather
  refine congrArg x (funext fun a => Fin.ext ?_)
  have hs : gather_S64x3x128_S100000x1_S100000x3x128_12_0_n_n_0_1_13128.siIdx (ix3 n k j) ⟨0, by decide⟩ = ix2 n 0 := by
    funext b; refine Fin.ext ?_
    match b with
    | ⟨0, _⟩ => rfl
    | ⟨1, _⟩ => rfl
  match a with
  | ⟨0, _⟩ =>
    show min (idx (gather_S64x3x128_S100000x1_S100000x3x128_12_0_n_n_0_1_13128.siIdx (ix3 n k j) ⟨0, by decide⟩)).toInt.toNat (64 - 1) + 0 + 0 = (g n).val
    rw [hs, hg, toInt_word]
    have := (g n).isLt
    simp only [Int.toNat_natCast]; omega
  | ⟨1, _⟩ => show 0 + 0 + k.val = k.val; omega
  | ⟨2, _⟩ => show 0 + 0 + j.val = j.val; omega

/-- Where update element `(n, j)` of the row sums lands: row `g n`, the same column. -/
theorem lands2 (n : Fin 100000) (j : Fin 128) :
    scatter_S64x128_S100000x1_S100000x128_1_0_0_1.resultIdx? (ix2 n j) idx = some (ix2 (g n) j) := by
  have hs : scatter_S64x128_S100000x1_S100000x128_1_0_0_1.siIdx (ix2 n j) ⟨0, by decide⟩ = ix2 n 0 := by
    funext b; refine Fin.ext ?_
    match b with
    | ⟨0, _⟩ => rfl
    | ⟨1, _⟩ => rfl
  have e : ∀ a, scatter_S64x128_S100000x1_S100000x128_1_0_0_1.start (ix2 n j) idx a
      + scatter_S64x128_S100000x1_S100000x128_1_0_0_1.window (ix2 n j) a = ((ix2 (g n) j : S64x128.Idx) a).val := by
    intro a
    match a with
    | ⟨0, _⟩ =>
      show (idx (scatter_S64x128_S100000x1_S100000x128_1_0_0_1.siIdx (ix2 n j) ⟨0, by decide⟩)).toInt + ((0 : Nat) : Int) = ((g n).val : Int)
      rw [hs, hg, toInt_word]; simp
    | ⟨1, _⟩ => show (0 : Int) + (j.val : Int) = (j.val : Int); omega
  unfold ScatterDims.resultIdx?
  rw [dif_pos (fun a => ⟨by rw [e a]; exact Int.natCast_nonneg _, by rw [e a]; exact_mod_cast ((ix2 (g n) j : S64x128.Idx) a).isLt⟩)]
  refine congrArg some (funext fun a => Fin.ext ?_)
  show Int.toNat _ = _
  rw [e a, Int.toNat_natCast]

/-- The same for the rows of vectors. -/
theorem lands3 (n : Fin 100000) (k : Fin 3) (j : Fin 128) :
    scatter_S64x3x128_S100000x1_S100000x3x128_12_0_0_1.resultIdx? (ix3 n k j) idx = some (ix3 (g n) k j) := by
  have hs : scatter_S64x3x128_S100000x1_S100000x3x128_12_0_0_1.siIdx (ix3 n k j) ⟨0, by decide⟩ = ix2 n 0 := by
    funext b; refine Fin.ext ?_
    match b with
    | ⟨0, _⟩ => rfl
    | ⟨1, _⟩ => rfl
  have e : ∀ a, scatter_S64x3x128_S100000x1_S100000x3x128_12_0_0_1.start (ix3 n k j) idx a
      + scatter_S64x3x128_S100000x1_S100000x3x128_12_0_0_1.window (ix3 n k j) a = ((ix3 (g n) k j : S64x3x128.Idx) a).val := by
    intro a
    match a with
    | ⟨0, _⟩ =>
      show (idx (scatter_S64x3x128_S100000x1_S100000x3x128_12_0_0_1.siIdx (ix3 n k j) ⟨0, by decide⟩)).toInt + ((0 : Nat) : Int) = ((g n).val : Int)
      rw [hs, hg, toInt_word]; simp
    | ⟨1, _⟩ => show (0 : Int) + (k.val : Int) = (k.val : Int); omega
    | ⟨2, _⟩ => show (0 : Int) + (j.val : Int) = (j.val : Int); omega
  unfold ScatterDims.resultIdx?
  rw [dif_pos (fun a => ⟨by rw [e a]; exact Int.natCast_nonneg _, by rw [e a]; exact_mod_cast ((ix3 (g n) k j : S64x3x128.Idx) a).isLt⟩)]
  refine congrArg some (funext fun a => Fin.ext ?_)
  show Int.toNat _ = _
  rw [e a, Int.toNat_natCast]

/-- The same for one number a node. -/
theorem lands1 (n : Fin 100000) :
    scatter_S64_S100000x1_S100000_n_0_0_1.resultIdx? (ix1 n) idx = some (ix1 (g n)) := by
  have hs : scatter_S64_S100000x1_S100000_n_0_0_1.siIdx (ix1 n) ⟨0, by decide⟩ = ix2 n 0 := by
    funext b; refine Fin.ext ?_
    match b with
    | ⟨0, _⟩ => rfl
    | ⟨1, _⟩ => rfl
  have e : ∀ a, scatter_S64_S100000x1_S100000_n_0_0_1.start (ix1 n) idx a
      + scatter_S64_S100000x1_S100000_n_0_0_1.window (ix1 n) a = ((ix1 (g n) : S64.Idx) a).val := by
    intro a
    match a with
    | ⟨0, _⟩ =>
      show (idx (scatter_S64_S100000x1_S100000_n_0_0_1.siIdx (ix1 n) ⟨0, by decide⟩)).toInt + ((0 : Nat) : Int) = ((g n).val : Int)
      rw [hs, hg, toInt_word]; simp
  unfold ScatterDims.resultIdx?
  rw [dif_pos (fun a => ⟨by rw [e a]; exact Int.natCast_nonneg _, by rw [e a]; exact_mod_cast ((ix1 (g n) : S64.Idx) a).isLt⟩)]
  refine congrArg some (funext fun a => Fin.ext ?_)
  show Int.toNat _ = _
  rw [e a, Int.toNat_natCast]

/-- The row sums at `(b, j)`: the start plus the sum of column `j` over the nodes of graph `b`. -/
theorem scatter2 (x : FVec Ideal S64x128 .f32) (u : FVec Ideal S100000x128 .f32) (b : Fin 64) (j : Fin 128) :
    Host.scatterAdd scatter_S64x128_S100000x1_S100000x128_1_0_0_1 x idx u (ix2 b j)
      = x (ix2 b j) + ∑ n : Fin 100000, if g n = b then u (ix2 n j) else 0 := by
  show x (ix2 b j) + ∑ i ∈ Finset.univ.filter (fun i => scatter_S64x128_S100000x1_S100000x128_1_0_0_1.resultIdx? i idx = some (ix2 b j)), u i = _
  refine congrArg (x (ix2 b j) + ·) ?_
  rw [Finset.sum_filter, sum_idx2]
  refine Finset.sum_congr rfl fun n _ => ?_
  simp only [lands2 idx g hg, Option.some.injEq]
  rw [Finset.sum_eq_single j]
  · by_cases h : g n = b
    · rw [if_pos (by rw [h]), if_pos h]
    · rw [if_neg (fun e => h ((ix2_inj ..).1 e).1), if_neg h]
  · intro j' _ hj
    exact if_neg fun e => hj ((ix2_inj ..).1 e).2
  · intro h; exact absurd (Finset.mem_univ _) h

/-- The vector row sums at `(b, k, j)`. -/
theorem scatter3 (x : FVec Ideal S64x3x128 .f32) (u : FVec Ideal S100000x3x128 .f32) (b : Fin 64) (k : Fin 3) (j : Fin 128) :
    Host.scatterAdd scatter_S64x3x128_S100000x1_S100000x3x128_12_0_0_1 x idx u (ix3 b k j)
      = x (ix3 b k j) + ∑ n : Fin 100000, if g n = b then u (ix3 n k j) else 0 := by
  show x (ix3 b k j) + ∑ i ∈ Finset.univ.filter (fun i => scatter_S64x3x128_S100000x1_S100000x3x128_12_0_0_1.resultIdx? i idx = some (ix3 b k j)), u i = _
  refine congrArg (x (ix3 b k j) + ·) ?_
  rw [Finset.sum_filter, sum_idx3]
  refine Finset.sum_congr rfl fun n _ => ?_
  simp only [lands3 idx g hg, Option.some.injEq]
  rw [Finset.sum_eq_single k, Finset.sum_eq_single j]
  · by_cases h : g n = b
    · rw [if_pos (by rw [h]), if_pos h]
    · rw [if_neg (fun e => h ((ix3_inj ..).1 e).1), if_neg h]
  · intro j' _ hj
    exact if_neg fun e => hj ((ix3_inj ..).1 e).2.2
  · intro h; exact absurd (Finset.mem_univ _) h
  · intro k' _ hk
    exact Finset.sum_eq_zero fun j' _ => if_neg fun e => hk ((ix3_inj ..).1 e).2.1
  · intro h; exact absurd (Finset.mem_univ _) h

/-- The sums of one number a node at `b`. -/
theorem scatter1 (x : FVec Ideal S64 .f32) (u : FVec Ideal S100000 .f32) (b : Fin 64) :
    Host.scatterAdd scatter_S64_S100000x1_S100000_n_0_0_1 x idx u (ix1 b)
      = x (ix1 b) + ∑ n : Fin 100000, if g n = b then u (ix1 n) else 0 := by
  show x (ix1 b) + ∑ i ∈ Finset.univ.filter (fun i => scatter_S64_S100000x1_S100000_n_0_0_1.resultIdx? i idx = some (ix1 b)), u i = _
  refine congrArg (x (ix1 b) + ·) ?_
  rw [Finset.sum_filter, sum_idx1]
  refine Finset.sum_congr rfl fun n _ => ?_
  simp only [lands1 idx g hg, Option.some.injEq]
  by_cases h : g n = b
  · rw [if_pos (by rw [h]), if_pos h]
  · rw [if_neg (fun e => h ((ix1_inj ..).1 e)), if_neg h]

end Cert.ReferenceIdeal.Rows
-- ==== Proof.Reference.Values.lean ====
/- The reference read at an index: each of its five results is the layer's plain mathematics (`Proof/Spec.lean`) of the
   argument arrays, where every node's graph number is one of the sixty-four. -/
module

public import proofs.«01_k».proof.Proof.Gen.ReferenceIdeal.Read
public import proofs.«01_k».proof.Proof.Reference.Rows
public import proofs.«01_k».proof.Proof.Spec

@[expose] public section

set_option maxRecDepth 16384

noncomputable section

namespace Cert.ReferenceIdeal.Values

open Cert.ReferenceIdeal Cert.ReferenceIdeal.Gen Cert.ReferenceIdeal.Read Cert.Spec Idealize.ShloMosaic

variable {x0 : FVec Ideal S100000x128 .f32} {x1 : FVec Ideal S64x128 .f32} {x2 : FVec Ideal S100000x3x128 .f32}
  {x3 : FVec Ideal S64x3x128 .f32} {x4 : FVec Ideal S100000x16 .f32} {x5 : FVec Ideal S100000x3 .f32} {x6 : IVec S100000 32}
  {x7 : FVec Ideal S128x128 .f32} {x8 : FVec Ideal S128 .f32} {x9 : FVec Ideal S128x384 .f32} {x10 : FVec Ideal S384 .f32}
  {x11 : FVec Ideal S16x384 .f32} {x12 : FVec Ideal S384 .f32} {x13 : FVec Ideal S256x128 .f32} {x14 : FVec Ideal S128 .f32}
  {x15 : FVec Ideal S128x128 .f32} {x16 : FVec Ideal S128 .f32} {x17 : FVec Ideal S128x128 .f32} {x18 : FVec Ideal S256x128 .f32}
  {x19 : FVec Ideal S128 .f32} {x20 : FVec Ideal S128x128 .f32} {x21 : FVec Ideal S128 .f32} {x22 : FVec Ideal S128x128 .f32}
  {x23 : FVec Ideal S128x256 .f32} {x24 : FVec Ideal S256x128 .f32} {x25 : FVec Ideal S128 .f32} {x26 : FVec Ideal S128x384 .f32}
  {x27 : FVec Ideal S384 .f32} {x28 : FVec Ideal S128x1 .f32} {g : Fin 100000 → Fin 64} {A : Inputs}
  (hA : A = Inputs.of g x0 x1 x2 x3 x4 x5 x7 x8 x9 x10 x11 x12 x13 x14 x15 x16 x17 x18 x19 x20 x21 x22 x23 x24 x25 x26 x27 x28)
  (hg : ∀ n, x6 (ix1 n) = BitVec.ofNat 32 (g n).val)

include hA

/-! ## The nodes -/

/-- The node embedding's first activation. -/
theorem v6 (n : Fin 100000) (k : Fin 128) : val_main_v6 (F := Ideal) x0 x7 x8 (ix2 n k) = A.t n k := by
  pointwise [val_main_v6, val_main_v5, val_main_cst, val_main_v4, val_main_call0_v5, val_main_call0_v4, val_main_call0_cst_0,
    val_main_call0_v3, val_main_call0_v2, val_main_call0_cst, val_main_call0_v1, val_main_call0_v0, val_main_v3, val_main_v2,
    val_main_v1, val_main_v0]
  subst hA; rfl

/-- The product of the projected embedding and the projected edge features. -/
theorem v15 (n : Fin 100000) (j : Fin 384) : val_main_v15 (F := Ideal) x0 x4 x7 x8 x9 x10 x11 x12 (ix2 n j) = A.prod n j := by
  pointwise [val_main_v15, val_main_v14, val_main_v13, val_main_v12, val_main_v11, val_main_v10, val_main_v9, val_main_v8,
    val_main_v7, v6 hA]
  subst hA; rfl

/-- The updated node embedding. -/
theorem v21 (n : Fin 100000) (j : Fin 128) : val_main_v21 (F := Ideal) x0 x4 x7 x8 x9 x10 x11 x12 (ix2 n j) = A.xn n j := by
  pointwise [val_main_v21, val_main_v20, val_main_v19, val_main_cst_0, val_main_v18, v15 hA]
  subst hA; rfl

/-- The updated node vector. -/
theorem v32 (n : Fin 100000) (k : Fin 3) (j : Fin 128) : val_main_v32 (F := Ideal) x0 x2 x4 x5 x7 x8 x9 x10 x11 x12 (ix3 n k j) = A.vecn n k j := by
  pointwise [val_main_v32, val_main_v31, val_main_cst_1, val_main_v30, val_main_v29, val_main_v28, val_main_v27, val_main_v26,
    val_main_v25, val_main_v24, val_main_v23, val_main_v22, val_main_v17, val_main_v16, v15 hA]
  subst hA; rfl

omit hA in
/-- A graph number's word is not negative, so wrapping leaves it. -/
theorem wrap (b : Fin 64) : Scalar.select (Scalar.cmpi .slt (BitVec.ofNat 32 b.val) 0#32) (BitVec.ofNat 32 b.val + 64#32) (BitVec.ofNat 32 b.val)
    = BitVec.ofNat 32 b.val := by
  have h : ∀ b : Fin 64, Scalar.cmpi .slt (BitVec.ofNat 32 b.val) 0#32 = 0#1 := by decide
  rw [h b]; rfl

omit hA in
include hg in
/-- The start of the first lookup. -/
theorem v38 (n : Fin 100000) : val_main_v38 (F := Ideal) x6 (ix2 n 0) = BitVec.ofNat 32 (g n).val := by
  pointwise [val_main_v38, val_main_v37, val_main_v36, val_main_v35, val_main_c_2, val_main_v34, val_main_v33, val_main_c, hg]
  exact wrap (g n)

omit hA in
include hg in
/-- The start of the second lookup. -/
theorem v61 (n : Fin 100000) : val_main_v61 (F := Ideal) x6 (ix2 n 0) = BitVec.ofNat 32 (g n).val := by
  pointwise [val_main_v61, val_main_v60, val_main_v59, val_main_v58, val_main_c_6, val_main_v57, val_main_v56, val_main_c_5, hg]
  exact wrap (g n)

include hg in
/-- The hidden layer of the node's scalar result. -/
theorem v45 (n : Fin 100000) (j : Fin 128) : val_main_v45 (F := Ideal) x0 x1 x4 x6 x7 x8 x9 x10 x11 x12 x13 x14 (ix2 n j) = A.hid n j := by
  pointwise [val_main_v45, val_main_call1_v5, val_main_call1_v4, val_main_call1_cst_0,
    val_main_call1_v3, val_main_call1_v2, val_main_call1_cst, val_main_call1_v1, val_main_call1_v0, val_main_v44, val_main_v43,
    val_main_v42, val_main_v41, val_main_v40, v21 hA, val_main_v39, Rows.gather2 (val_main_v38 (F := Ideal) x6) g (v38 hg)]
  subst hA; rfl

include hg in
/-- RESULT 1. -/
theorem v55 (n : Fin 100000) (j : Fin 128) : val_main_v55 (F := Ideal) x0 x1 x4 x6 x7 x8 x9 x10 x11 x12 x13 x14 x15 x16 (ix2 n j) = A.hx n j := by
  pointwise [val_main_v55, val_main_v54, val_main_v53, val_main_cst_4, val_main_v52, val_main_call2_v5, val_main_call2_v4, val_main_call2_cst_0,
    val_main_call2_v3, val_main_call2_v2, val_main_call2_cst, val_main_call2_v1, val_main_call2_v0, val_main_v51, val_main_v50,
    val_main_v49, val_main_v48, val_main_v47, val_main_v46, val_main_cst_3, v45 hA hg, v21 hA]
  subst hA; rfl

include hg in
/-- RESULT 2. -/
theorem v65 (n : Fin 100000) (k : Fin 3) (j : Fin 128) : val_main_v65 (F := Ideal) x0 x2 x3 x4 x5 x6 x7 x8 x9 x10 x11 x12 x17 (ix3 n k j) = A.hv n k j := by
  pointwise [val_main_v65, val_main_v64, val_main_v63, v32 hA, val_main_v62, Rows.gather3 (val_main_v61 (F := Ideal) x6) g (v61 hg)]
  subst hA; rfl

/-! ## The graphs -/

include hg in
/-- The number of nodes of a graph, as the scalars' mean divides by it. -/
theorem v72 (b : Fin 64) : val_main_v72 (F := Ideal) x6 (ix1 b) = A.cnt b := by
  have h : ∀ n, val_main_v71 (F := Ideal) x6 (ix2 n 0) = BitVec.ofNat 32 (g n).val := fun n => by pointwise [val_main_v71, hg]
  unfold val_main_v72
  rw [Rows.scatter1 _ g h]
  pointwise [val_main_v70, val_main_v69, val_main_cst_9, val_main_cst_8]
  subst hA; rfl

include hg in
/-- The same as the vectors' mean divides by it. -/
theorem v99 (b : Fin 64) : val_main_v99 (F := Ideal) x6 (ix1 b) = A.cnt b := by
  have h : ∀ n, val_main_v98 (F := Ideal) x6 (ix2 n 0) = BitVec.ofNat 32 (g n).val := fun n => by pointwise [val_main_v98, hg]
  unfold val_main_v99
  rw [Rows.scatter1 _ g h]
  pointwise [val_main_v97, val_main_v96, val_main_cst_15, val_main_cst_14]
  subst hA; rfl

include hg in
/-- The sum of the node scalars. -/
theorem v68 (b : Fin 64) (j : Fin 128) : val_main_v68 (F := Ideal) x0 x1 x4 x6 x7 x8 x9 x10 x11 x12 x13 x14 x15 x16 (ix2 b j) = A.sumx b j := by
  have h : ∀ n, val_main_v67 (F := Ideal) x6 (ix2 n 0) = BitVec.ofNat 32 (g n).val := fun n => by pointwise [val_main_v67, hg]
  unfold val_main_v68
  rw [Rows.scatter2 _ g h]
  simp only [v55 hA hg]
  pointwise [val_main_v66, val_main_cst_7]
  subst hA; rfl

include hg in
/-- The sum of the node vectors. -/
theorem v95 (b : Fin 64) (k : Fin 3) (j : Fin 128) : val_main_v95 (F := Ideal) x0 x2 x3 x4 x5 x6 x7 x8 x9 x10 x11 x12 x17 (ix3 b k j) = A.sumv b k j := by
  have h : ∀ n, val_main_v94 (F := Ideal) x6 (ix2 n 0) = BitVec.ofNat 32 (g n).val := fun n => by pointwise [val_main_v94, hg]
  unfold val_main_v95
  rw [Rows.scatter3 _ g h]
  simp only [v65 hA hg]
  pointwise [val_main_v93, val_main_cst_13]
  subst hA; rfl

include hg in
/-- The mean of the node scalars. -/
theorem v77 (b : Fin 64) (j : Fin 128) : val_main_v77 (F := Ideal) x0 x1 x4 x6 x7 x8 x9 x10 x11 x12 x13 x14 x15 x16 (ix2 b j) = A.mx b j := by
  pointwise [val_main_v77, val_main_v76, val_main_v75, val_main_v74, val_main_v73, val_main_cst_10, v72 hA hg, v68 hA hg]
  subst hA; rfl

include hg in
/-- The mean of the node vectors. -/
theorem v104 (b : Fin 64) (k : Fin 3) (j : Fin 128) : val_main_v104 (F := Ideal) x0 x2 x3 x4 x5 x6 x7 x8 x9 x10 x11 x12 x17 (ix3 b k j) = A.mv b k j := by
  pointwise [val_main_v104, val_main_v103, val_main_v102, val_main_v101, val_main_v100, val_main_cst_16, v99 hA hg, v95 hA hg]
  subst hA; rfl

include hg in
/-- The graph scalars' hidden layer. -/
theorem v85 (b : Fin 64) (j : Fin 128) : val_main_v85 (F := Ideal) x0 x1 x4 x6 x7 x8 x9 x10 x11 x12 x13 x14 x15 x16 x18 x19 (ix2 b j) = A.gh b j := by
  pointwise [val_main_v85, val_main_v84, val_main_cst_11, val_main_v83, val_main_call3_v5, val_main_call3_v4, val_main_call3_cst_0,
    val_main_call3_v3, val_main_call3_v2, val_main_call3_cst, val_main_call3_v1, val_main_call3_v0, val_main_v82, val_main_v81,
    val_main_v80, val_main_v79, val_main_v78, v77 hA hg]
  subst hA; rfl

include hg in
/-- The updated graph scalars. -/
theorem v107 (b : Fin 64) (j : Fin 128) : val_main_v107 (F := Ideal) x0 x1 x4 x6 x7 x8 x9 x10 x11 x12 x13 x14 x15 x16 x18 x19 x20 x21 (ix2 b j) = A.sl1 b j := by
  pointwise [val_main_v107, val_main_v92, val_main_v91, val_main_cst_12, val_main_v90, val_main_call4_v5, val_main_call4_v4, val_main_call4_cst_0,
    val_main_call4_v3, val_main_call4_v2, val_main_call4_cst, val_main_call4_v1, val_main_call4_v0, val_main_v89, val_main_v88,
    val_main_v87, val_main_v86, v85 hA hg]
  subst hA; rfl

include hg in
/-- The updated graph vectors. -/
theorem v108 (b : Fin 64) (k : Fin 3) (j : Fin 128) : val_main_v108 (F := Ideal) x0 x2 x3 x4 x5 x6 x7 x8 x9 x10 x11 x12 x17 x22 (ix3 b k j) = A.vl1 b k j := by
  pointwise [val_main_v108, val_main_v106, val_main_v105, v104 hA hg]
  subst hA; rfl

include hg in
/-- Their projection. -/
theorem v109 (b : Fin 64) (k : Fin 3) (j : Fin 256) : val_main_v109 (F := Ideal) x0 x2 x3 x4 x5 x6 x7 x8 x9 x10 x11 x12 x17 x22 x23 (ix3 b k j) = A.vh b k j := by
  pointwise [val_main_v109, v108 hA hg]
  subst hA; rfl

include hg in
/-- The norm of the projection's second half. -/
theorem v116 (b : Fin 64) (j : Fin 128) : val_main_v116 (F := Ideal) x0 x2 x3 x4 x5 x6 x7 x8 x9 x10 x11 x12 x17 x22 x23 (ix2 b j) = A.vn b j := by
  pointwise [val_main_v116, val_main_v115, val_main_v114, val_main_cst_18, val_main_v113, val_main_cst_17, val_main_v112, val_main_v111,
    v109 hA hg]
  first | rfl | (rw [zero_add]; rfl)

include hg in
/-- The gates' hidden layer. -/
theorem v124 (b : Fin 64) (j : Fin 128) : val_main_v124 (F := Ideal) x0 x1 x2 x3 x4 x5 x6 x7 x8 x9 x10 x11 x12 x13 x14 x15 x16 x17 x18 x19 x20 x21 x22 x23 x24 x25 (ix2 b j) = A.sp b j := by
  pointwise [val_main_v124, val_main_v123, val_main_cst_19, val_main_v122, val_main_call5_v5, val_main_call5_v4, val_main_call5_cst_0,
    val_main_call5_v3, val_main_call5_v2, val_main_call5_cst, val_main_call5_v1, val_main_call5_v0, val_main_v121, val_main_v120,
    val_main_v119, val_main_v118, val_main_v117, v107 hA hg, v116 hA hg]
  subst hA; rfl

include hg in
/-- The gates. -/
theorem v128 (b : Fin 64) (j : Fin 384) : val_main_v128 (F := Ideal) x0 x1 x2 x3 x4 x5 x6 x7 x8 x9 x10 x11 x12 x13 x14 x15 x16 x17 x18 x19 x20 x21 x22 x23 x24 x25 x26 x27 (ix2 b j) = A.sh b j := by
  pointwise [val_main_v128, val_main_v127, val_main_v126, val_main_v125, v124 hA hg]
  subst hA; rfl

include hg in
/-- RESULT 3. -/
theorem v134 (b : Fin 64) (j : Fin 128) : val_main_v134 (F := Ideal) x0 x1 x2 x3 x4 x5 x6 x7 x8 x9 x10 x11 x12 x13 x14 x15 x16 x17 x18 x19 x20 x21 x22 x23 x24 x25 x26 x27 (ix2 b j) = A.slo b j := by
  pointwise [val_main_v134, val_main_v133, val_main_v132, val_main_v131, val_main_v130, v128 hA hg, v107 hA hg]
  rfl

include hg in
/-- RESULT 4. -/
theorem v138 (b : Fin 64) (k : Fin 3) (j : Fin 128) : val_main_v138 (F := Ideal) x0 x1 x2 x3 x4 x5 x6 x7 x8 x9 x10 x11 x12 x13 x14 x15 x16 x17 x18 x19 x20 x21 x22 x23 x24 x25 x26 x27 (ix3 b k j) = A.vlo b k j := by
  pointwise [val_main_v138, val_main_v137, val_main_v136, val_main_v135, val_main_v129, val_main_v110, v128 hA hg, v109 hA hg, v108 hA hg]
  rfl

include hg in
/-- RESULT 5. -/
theorem v139 (b : Fin 64) (k : Fin 3) (j : Fin 1) : val_main_v139 (F := Ideal) x0 x1 x2 x3 x4 x5 x6 x7 x8 x9 x10 x11 x12 x13 x14 x15 x16 x17 x18 x19 x20 x21 x22 x23 x24 x25 x26 x27 x28 (ix3 b k j) = A.ld b k j := by
  pointwise [val_main_v139, v138 hA hg]
  subst hA; rfl

end Cert.ReferenceIdeal.Values
-- ==== Proof.Same.lean ====
/- The two programs' five results agree under the precondition: each is the layer's mathematics of the same inputs. -/
module

public import proofs.«01_k».proof.Proof.Precond
public import proofs.«01_k».proof.Proof.KernelIdeal.Exit
public import proofs.«01_k».proof.Proof.Gen.ReferenceIdeal.Run
public import proofs.«01_k».proof.Proof.Reference.Values

@[expose] public section

set_option maxRecDepth 16384

noncomputable section

namespace Cert.Same

open Idealize.ShloMosaic Idealize.ShloMosaic.TcCoe Idealize.SL.Sem Cert.Spec

set_option maxHeartbeats 4000000 in
/-- From memories that agree on the arguments and meet the precondition, the kernel and the reference end with the same
    five results, and with their arguments as launched. -/
theorem algebraic : Cert.algebraic_KernelIdeal_ReferenceIdeal_pre_finite_nodes_and_graph_ids
    (hKernelIdeal := Cert.KernelIdeal.Gen.facts) (hReferenceIdeal := Cert.ReferenceIdeal.Gen.facts)
    (hPre_finite_nodes_and_graph_ids := Cert.Precond.facts) := by
  intro m ρ m' ρ' hpre hagree
  choose g hg hR using Cert.Precond.of_pre m hpre
  refine ⟨fun c i => (Cert.KernelIdeal.Entry.inputs c m (g c)).hx (i 0) (i 1),
    fun c i => (Cert.KernelIdeal.Entry.inputs c m (g c)).hv (i 0) (i 1) (i 2),
    fun c i => (Cert.KernelIdeal.Entry.inputs c m (g c)).slo (i 0) (i 1),
    fun c i => (Cert.KernelIdeal.Entry.inputs c m (g c)).vlo (i 0) (i 1) (i 2),
    fun c i => (Cert.KernelIdeal.Entry.inputs c m (g c)).ld (i 0) (i 1) (i 2), ?_, ?_⟩
  · refine (θ_run _ _ _).mono (fun r h c => ?_) (Cert.KernelIdeal.Launched.run m ρ)
    have key : ∀ (b : Ref Cert.KernelIdeal.sig .tc) (hb : ¬ (Proc.devRef .tc b : DevRef Cert.KernelIdeal.τ Cert.KernelIdeal.sig).isScoped),
        r.2.mem ((c.tc : Thread Cert.KernelIdeal.nD Cert.KernelIdeal.τ).loc b) = Cert.KernelIdeal.Launched.W5 m ρ c (Proc.devRef .tc b) :=
      fun b hb => h.1 c _ (Cert.KernelIdeal.Launched.mem_uc b hb)
    refine ⟨(key _ (by decide +kernel)).trans (Cert.KernelIdeal.Exit.result1 c m ρ (g c) (hg c)),
      (key _ (by decide +kernel)).trans (Cert.KernelIdeal.Exit.result2 c m ρ (g c) (hg c) (hR c)),
      (key _ (by decide +kernel)).trans (Cert.KernelIdeal.Exit.result3 c m ρ (g c) (hg c) (hR c)),
      (key _ (by decide +kernel)).trans (Cert.KernelIdeal.Exit.result4 c m ρ (g c) (hg c) (hR c)),
      (key _ (by decide +kernel)).trans (Cert.KernelIdeal.Exit.result5 c m ρ (g c) (hg c) (hR c)), ?_⟩
    and_intros
    all_goals exact Cert.KernelIdeal.Launched.arg_kept m ρ h.1 c _ (by decide)
  · refine (θ_run _ _ _).mono (fun r h c => ?_) (Cert.ReferenceIdeal.Value.run m' ρ')
    obtain ⟨r1, r2, r3, r4, r5, hargs⟩ := h c
    obtain ⟨a0, a1, a2, a3, a4, a5, a6, a7, a8, a9, a10, a11, a12, a13, a14, a15, a16, a17, a18, a19, a20, a21, a22, a23, a24,
      a25, a26, a27, a28⟩ := hagree c
    have hA : Cert.KernelIdeal.Entry.inputs c m (g c) = Inputs.of (g c)
        (m' ((c : Thread Cert.ReferenceIdeal.nD Cert.ReferenceIdeal.τ).loc Cert.ReferenceIdeal.main_arg0))
        (m' ((c : Thread Cert.ReferenceIdeal.nD Cert.ReferenceIdeal.τ).loc Cert.ReferenceIdeal.main_arg1))
        (m' ((c : Thread Cert.ReferenceIdeal.nD Cert.ReferenceIdeal.τ).loc Cert.ReferenceIdeal.main_arg2))
        (m' ((c : Thread Cert.ReferenceIdeal.nD Cert.ReferenceIdeal.τ).loc Cert.ReferenceIdeal.main_arg3))
        (m' ((c : Thread Cert.ReferenceIdeal.nD Cert.ReferenceIdeal.τ).loc Cert.ReferenceIdeal.main_arg4))
        (m' ((c : Thread Cert.ReferenceIdeal.nD Cert.ReferenceIdeal.τ).loc Cert.ReferenceIdeal.main_arg5))
        (m' ((c : Thread Cert.ReferenceIdeal.nD Cert.ReferenceIdeal.τ).loc Cert.ReferenceIdeal.main_arg7))
        (m' ((c : Thread Cert.ReferenceIdeal.nD Cert.ReferenceIdeal.τ).loc Cert.ReferenceIdeal.main_arg8))
        (m' ((c : Thread Cert.ReferenceIdeal.nD Cert.ReferenceIdeal.τ).loc Cert.ReferenceIdeal.main_arg9))
        (m' ((c : Thread Cert.ReferenceIdeal.nD Cert.ReferenceIdeal.τ).loc Cert.ReferenceIdeal.main_arg10))
        (m' ((c : Thread Cert.ReferenceIdeal.nD Cert.ReferenceIdeal.τ).loc Cert.ReferenceIdeal.main_arg11))
        (m' ((c : Thread Cert.ReferenceIdeal.nD Cert.ReferenceIdeal.τ).loc Cert.ReferenceIdeal.main_arg12))
        (m' ((c : Thread Cert.ReferenceIdeal.nD Cert.ReferenceIdeal.τ).loc Cert.ReferenceIdeal.main_arg13))
        (m' ((c : Thread Cert.ReferenceIdeal.nD Cert.ReferenceIdeal.τ).loc Cert.ReferenceIdeal.main_arg14))
        (m' ((c : Thread Cert.ReferenceIdeal.nD Cert.ReferenceIdeal.τ).loc Cert.ReferenceIdeal.main_arg15))
        (m' ((c : Thread Cert.ReferenceIdeal.nD Cert.ReferenceIdeal.τ).loc Cert.ReferenceIdeal.main_arg16))
        (m' ((c : Thread Cert.ReferenceIdeal.nD Cert.ReferenceIdeal.τ).loc Cert.ReferenceIdeal.main_arg17))
        (m' ((c : Thread Cert.ReferenceIdeal.nD Cert.ReferenceIdeal.τ).loc Cert.ReferenceIdeal.main_arg18))
        (m' ((c : Thread Cert.ReferenceIdeal.nD Cert.ReferenceIdeal.τ).loc Cert.ReferenceIdeal.main_arg19))
        (m' ((c : Thread Cert.ReferenceIdeal.nD Cert.ReferenceIdeal.τ).loc Cert.ReferenceIdeal.main_arg20))
        (m' ((c : Thread Cert.ReferenceIdeal.nD Cert.ReferenceIdeal.τ).loc Cert.ReferenceIdeal.main_arg21))
        (m' ((c : Thread Cert.ReferenceIdeal.nD Cert.ReferenceIdeal.τ).loc Cert.ReferenceIdeal.main_arg22))
        (m' ((c : Thread Cert.ReferenceIdeal.nD Cert.ReferenceIdeal.τ).loc Cert.ReferenceIdeal.main_arg23))
        (m' ((c : Thread Cert.ReferenceIdeal.nD Cert.ReferenceIdeal.τ).loc Cert.ReferenceIdeal.main_arg24))
        (m' ((c : Thread Cert.ReferenceIdeal.nD Cert.ReferenceIdeal.τ).loc Cert.ReferenceIdeal.main_arg25))
        (m' ((c : Thread Cert.ReferenceIdeal.nD Cert.ReferenceIdeal.τ).loc Cert.ReferenceIdeal.main_arg26))
        (m' ((c : Thread Cert.ReferenceIdeal.nD Cert.ReferenceIdeal.τ).loc Cert.ReferenceIdeal.main_arg27))
        (m' ((c : Thread Cert.ReferenceIdeal.nD Cert.ReferenceIdeal.τ).loc Cert.ReferenceIdeal.main_arg28)) := by
      rw [a0, a1, a2, a3, a4, a5, a7, a8, a9, a10, a11, a12, a13, a14, a15, a16, a17, a18, a19, a20, a21, a22, a23, a24,
        a25, a26, a27, a28]
      rfl
    have hx6 : ∀ n, (m' ((c : Thread Cert.ReferenceIdeal.nD Cert.ReferenceIdeal.τ).loc Cert.ReferenceIdeal.main_arg6)
        : IVec Cert.ReferenceIdeal.S100000 32) (ix1 n) = BitVec.ofNat 32 (g c n).val := fun n => by
      rw [a6]; exact hg c n
    refine ⟨r1.trans ((Cert.ReferenceIdeal.Read.val_main_v55_eq _).trans ?_),
      r2.trans ((Cert.ReferenceIdeal.Read.val_main_v65_eq _).trans ?_),
      r3.trans ((Cert.ReferenceIdeal.Read.val_main_v134_eq _).trans ?_),
      r4.trans ((Cert.ReferenceIdeal.Read.val_main_v138_eq _).trans ?_),
      r5.trans ((Cert.ReferenceIdeal.Read.val_main_v139_eq _).trans ?_), hargs⟩
    · funext y; idx_vars y
      exact Cert.ReferenceIdeal.Values.v55 hA hx6 y0 y1
    · funext y; idx_vars y
      exact Cert.ReferenceIdeal.Values.v65 hA hx6 y0 y1 y2
    · funext y; idx_vars y
      exact Cert.ReferenceIdeal.Values.v134 hA hx6 y0 y1
    · funext y; idx_vars y
      exact Cert.ReferenceIdeal.Values.v138 hA hx6 y0 y1 y2
    · funext y; idx_vars y
      exact Cert.ReferenceIdeal.Values.v139 hA hx6 y0 y1 y2

end Cert.Same
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Kernel.Launched
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.KernelIdeal.Launched
public import proofs.«01_k».proof.Proof.Gen.ReferenceIdeal
public import proofs.«01_k».proof.Proof.Gen.ReferenceIdeal.Run
public import proofs.«01_k».proof.Proof.Gen.ReferenceIdeal.Read
public import proofs.«01_k».proof.Proof.Same
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Precond.facts,
  fun m ρ _ => Cert.Kernel.Launched.frame m ρ, fun m ρ _ => Cert.KernelIdeal.Launched.frame m ρ,
  fun m ρ _ => Cert.KernelIdeal.Launched.frame m ρ,
  fun m ρ _ => (θ_run _ _ _).mono (fun r h => ⟨fun c => (h c).2.2.2.2.2, sem_eq_zero_of_no_sems (by decide) r.2⟩) (Cert.ReferenceIdeal.Value.run m ρ),
  fun m ρ _ => (θ_run _ _ _).mono (fun r h => ⟨fun c => (h c).2.2.2.2.2, sem_eq_zero_of_no_sems (by decide) r.2⟩) (Cert.ReferenceIdeal.Value.run m ρ),
  trivial, Cert.Same.algebraic⟩

end Cert.Proof

end
